-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![768, 512]⟩ ⟨2, ![768, 8192]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![512, 768]⟩ ⟨2, ![8192, 768]⟩ 0 16 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v42) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x512x768 : Shape := ⟨3, ![2, 512, 768]⟩
abbrev S768x512 : Shape := ⟨2, ![768, 512]⟩
abbrev S2x512x128x64 : Shape := ⟨4, ![2, 512, 128, 64]⟩
abbrev S512x768 : Shape := ⟨2, ![512, 768]⟩
abbrev S_ : Shape := ⟨0, ![]⟩
abbrev S2x512x8x64 : Shape := ⟨4, ![2, 512, 8, 64]⟩
abbrev S1024x768 : Shape := ⟨2, ![1024, 768]⟩
abbrev S512x512 : Shape := ⟨2, ![512, 512]⟩
abbrev S8x512x768 : Shape := ⟨3, ![8, 512, 768]⟩
abbrev S8 : Shape := ⟨1, ![8]⟩
abbrev S1x512x768 : Shape := ⟨3, ![1, 512, 768]⟩
abbrev S512x64 : Shape := ⟨2, ![512, 64]⟩
abbrev S1x512x1x64 : Shape := ⟨4, ![1, 512, 1, 64]⟩
abbrev S512 : Shape := ⟨1, ![512]⟩
abbrev S512x1 : Shape := ⟨2, ![512, 1]⟩
abbrev S1 : Shape := ⟨1, ![1]⟩
abbrev S256x768 : Shape := ⟨2, ![256, 768]⟩
abbrev S1x256x768 : Shape := ⟨3, ![1, 256, 768]⟩
abbrev S128x768 : Shape := ⟨2, ![128, 768]⟩
abbrev S1x128x768 : Shape := ⟨3, ![1, 128, 768]⟩
abbrev S64x768 : Shape := ⟨2, ![64, 768]⟩
abbrev S1x64x768 : Shape := ⟨3, ![1, 64, 768]⟩

abbrev nBuf : Space → Nat
  | .hbm => 40
  | .vmem => 9
  | .smem => 0
  | _ => 0

abbrev bufTy : (tb : Table) → Fin (tcTables nBuf tb) → BufTy
  | .hbm, ⟨0, _⟩ => ⟨S2x512x768, .f32⟩
  | .hbm, ⟨1, _⟩ => ⟨S768x512, .f32⟩
  | .hbm, ⟨2, _⟩ => ⟨S2x512x128x64, .f32⟩
  | .hbm, ⟨3, _⟩ => ⟨S2x512x128x64, .f32⟩
  | .hbm, ⟨4, _⟩ => ⟨S512x768, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S2x512x128x64, .bf16⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i1⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S2x512x8x64, .bf16⟩
  | .hbm, ⟨23, _⟩ => ⟨S2x512x128x64, .bf16⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S2x512x8x64, .bf16⟩
  | .hbm, ⟨35, _⟩ => ⟨S2x512x768, .bf16⟩
  | .hbm, ⟨36, _⟩ => ⟨S768x512, .bf16⟩
  | .hbm, ⟨37, _⟩ => ⟨S512x768, .bf16⟩
  | .hbm, ⟨38, _⟩ => ⟨S1024x768, .f32⟩
  | .hbm, ⟨39, _⟩ => ⟨S2x512x768, .f32⟩
  | .local _ .vmem, ⟨0, _⟩ => ⟨S2x512x768, .bf16⟩
  | .local _ .vmem, ⟨1, _⟩ => ⟨S768x512, .bf16⟩
  | .local _ .vmem, ⟨2, _⟩ => ⟨S2x512x8x64, .bf16⟩
  | .local _ .vmem, ⟨3, _⟩ => ⟨S2x512x8x64, .bf16⟩
  | .local _ .vmem, ⟨4, _⟩ => ⟨S512x768, .bf16⟩
  | .local _ .vmem, ⟨5, _⟩ => ⟨S1024x768, .f32⟩
  | .local _ .vmem, ⟨6, _⟩ => ⟨S512x512, .bf16⟩
  | .local _ .vmem, ⟨7, _⟩ => ⟨S512x768, .bf16⟩
  | .local _ .vmem, ⟨8, _⟩ => ⟨S8x512x768, .bf16⟩
  | _, _ => ⟨S2x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 1 22 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_c_2 : Ref sig .tc := ⟨.hbm, 14, rfl⟩
abbrev main_v7 : Ref sig .tc := ⟨.hbm, 15, rfl⟩
abbrev main_c_3 : Ref sig .tc := ⟨.hbm, 16, rfl⟩
abbrev main_v8 : Ref sig .tc := ⟨.hbm, 17, rfl⟩
abbrev main_v9 : Ref sig .tc := ⟨.hbm, 18, rfl⟩
abbrev main_c_4 : Ref sig .tc := ⟨.hbm, 19, rfl⟩
abbrev main_c_5 : Ref sig .tc := ⟨.hbm, 20, rfl⟩
abbrev main_c_6 : Ref sig .tc := ⟨.hbm, 21, rfl⟩
abbrev main_v10 : Ref sig .tc := ⟨.hbm, 22, rfl⟩
abbrev main_v11 : Ref sig .tc := ⟨.hbm, 23, rfl⟩
abbrev main_c_7 : Ref sig .tc := ⟨.hbm, 24, rfl⟩
abbrev main_v12 : Ref sig .tc := ⟨.hbm, 25, rfl⟩
abbrev main_c_8 : Ref sig .tc := ⟨.hbm, 26, rfl⟩
abbrev main_v13 : Ref sig .tc := ⟨.hbm, 27, rfl⟩
abbrev main_c_9 : Ref sig .tc := ⟨.hbm, 28, rfl⟩
abbrev main_v14 : Ref sig .tc := ⟨.hbm, 29, rfl⟩
abbrev main_v15 : Ref sig .tc := ⟨.hbm, 30, rfl⟩
abbrev main_c_10 : Ref sig .tc := ⟨.hbm, 31, rfl⟩
abbrev main_c_11 : Ref sig .tc := ⟨.hbm, 32, rfl⟩
abbrev main_c_12 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v7 : BitVec 32 := Scalar.xori v2 c2_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v13 : BitVec 32 := Scalar.xori v2 c8_i32
  let c1_i32_10 : BitVec 32 := 1#32
  let v14 : BitVec 32 := Scalar.muli v13 c1_i32_10
  let v15 : BitVec 32 := Scalar.addi c0_i32_11 v14
  v15.toNat
def k0_mult1 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_280 : BitVec 32 := 1#32
  let v451 : BitVec 32 := Scalar.andi v2 c1_i32_280
  let c0_i32_281 : BitVec 32 := 0#32
  let v452 : BitVec 1 := Scalar.cmpi .sgt v451 c0_i32_281
  let c0_i32_283 : BitVec 32 := 0#32
  let c0_i32_282 : BitVec 32 := 0#32
  let c512_i32 : BitVec 32 := 512#32
  let v453 : BitVec 32 := Scalar.addi c0_i32_282 c512_i32
  let v454 : BitVec 32 := Scalar.select v452 c0_i32_283 v453
  v454
def k0_mult2 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_280 : BitVec 32 := 1#32
  let v451 : BitVec 32 := Scalar.andi v2 c1_i32_280
  let c0_i32_281 : BitVec 32 := 0#32
  let v452 : BitVec 1 := Scalar.cmpi .sgt v451 c0_i32_281
  let c0_i32_284 : BitVec 32 := 0#32
  let c512_i32_285 : BitVec 32 := 512#32
  let v456 : BitVec 32 := Scalar.addi c0_i32_284 c512_i32_285
  let c0_i32_286 : BitVec 32 := 0#32
  let v457 : BitVec 32 := Scalar.select v452 v456 c0_i32_286
  v457
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_280 : BitVec 32 := 1#32
  let v451 : BitVec 32 := Scalar.andi v2 c1_i32_280
  let c0_i32_281 : BitVec 32 := 0#32
  let v452 : BitVec 1 := Scalar.cmpi .sgt v451 c0_i32_281
  let c0_i32_283 : BitVec 32 := 0#32
  let c0_i32_282 : BitVec 32 := 0#32
  let c512_i32 : BitVec 32 := 512#32
  let v453 : BitVec 32 := Scalar.addi c0_i32_282 c512_i32
  let v454 : BitVec 32 := Scalar.select v452 c0_i32_283 v453
  let v455 : BitVec 32 := v454
  let v459 : Index := Scalar.indexCast v455
  let c0_287 : Index := 0#32
  ![v459.toNat, 0]
def k0_dev5 (d0 : Dev nD) : Nat :=
  let c0_i32_294 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_279 : BitVec 32 := 1#32
  let v450 : BitVec 32 := Scalar.xori v2 c1_i32_279
  let c1_i32_293 : BitVec 32 := 1#32
  let v466 : BitVec 32 := Scalar.muli v450 c1_i32_293
  let v467 : BitVec 32 := Scalar.addi c0_i32_294 v466
  v467.toNat
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_280 : BitVec 32 := 1#32
  let v451 : BitVec 32 := Scalar.andi v2 c1_i32_280
  let c0_i32_281 : BitVec 32 := 0#32
  let v452 : BitVec 1 := Scalar.cmpi .sgt v451 c0_i32_281
  let c0_i32_284 : BitVec 32 := 0#32
  let c512_i32_285 : BitVec 32 := 512#32
  let v456 : BitVec 32 := Scalar.addi c0_i32_284 c512_i32_285
  let c0_i32_286 : BitVec 32 := 0#32
  let v457 : BitVec 32 := Scalar.select v452 v456 c0_i32_286
  let v458 : BitVec 32 := v457
  let v487 : Index := Scalar.indexCast v458
  let c0_316 : Index := 0#32
  ![v487.toNat, 0]
def k0_mult3 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_322 : BitVec 32 := 2#32
  let v497 : BitVec 32 := Scalar.andi v2 c2_i32_322
  let c0_i32_323 : BitVec 32 := 0#32
  let v498 : BitVec 1 := Scalar.cmpi .sgt v497 c0_i32_323
  let c1_i32_280 : BitVec 32 := 1#32
  let v451 : BitVec 32 := Scalar.andi v2 c1_i32_280
  let c0_i32_281 : BitVec 32 := 0#32
  let v452 : BitVec 1 := Scalar.cmpi .sgt v451 c0_i32_281
  let c0_i32_284 : BitVec 32 := 0#32
  let c512_i32_285 : BitVec 32 := 512#32
  let v456 : BitVec 32 := Scalar.addi c0_i32_284 c512_i32_285
  let c0_i32_286 : BitVec 32 := 0#32
  let v457 : BitVec 32 := Scalar.select v452 v456 c0_i32_286
  let v458 : BitVec 32 := v457
  let c256_i32 : BitVec 32 := 256#32
  let v499 : BitVec 32 := Scalar.addi v458 c256_i32
  let v500 : BitVec 32 := Scalar.select v498 v458 v499
  v500
def k0_mult4 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_322 : BitVec 32 := 2#32
  let v497 : BitVec 32 := Scalar.andi v2 c2_i32_322
  let c0_i32_323 : BitVec 32 := 0#32
  let v498 : BitVec 1 := Scalar.cmpi .sgt v497 c0_i32_323
  let c1_i32_280 : BitVec 32 := 1#32
  let v451 : BitVec 32 := Scalar.andi v2 c1_i32_280
  let c0_i32_281 : BitVec 32 := 0#32
  let v452 : BitVec 1 := Scalar.cmpi .sgt v451 c0_i32_281
  let c0_i32_284 : BitVec 32 := 0#32
  let c512_i32_285 : BitVec 32 := 512#32
  let v456 : BitVec 32 := Scalar.addi c0_i32_284 c512_i32_285
  let c0_i32_286 : BitVec 32 := 0#32
  let v457 : BitVec 32 := Scalar.select v452 v456 c0_i32_286
  let v458 : BitVec 32 := v457
  let c256_i32_324 : BitVec 32 := 256#32
  let v502 : BitVec 32 := Scalar.addi v458 c256_i32_324
  let v503 : BitVec 32 := Scalar.select v498 v502 v458
  v503
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_322 : BitVec 32 := 2#32
  let v497 : BitVec 32 := Scalar.andi v2 c2_i32_322
  let c0_i32_323 : BitVec 32 := 0#32
  let v498 : BitVec 1 := Scalar.cmpi .sgt v497 c0_i32_323
  let c1_i32_280 : BitVec 32 := 1#32
  let v451 : BitVec 32 := Scalar.andi v2 c1_i32_280
  let c0_i32_281 : BitVec 32 := 0#32
  let v452 : BitVec 1 := Scalar.cmpi .sgt v451 c0_i32_281
  let c0_i32_284 : BitVec 32 := 0#32
  let c512_i32_285 : BitVec 32 := 512#32
  let v456 : BitVec 32 := Scalar.addi c0_i32_284 c512_i32_285
  let c0_i32_286 : BitVec 32 := 0#32
  let v457 : BitVec 32 := Scalar.select v452 v456 c0_i32_286
  let v458 : BitVec 32 := v457
  let c256_i32 : BitVec 32 := 256#32
  let v499 : BitVec 32 := Scalar.addi v458 c256_i32
  let v500 : BitVec 32 := Scalar.select v498 v458 v499
  let v501 : BitVec 32 := v500
  let v505 : Index := Scalar.indexCast v501
  let c0_325 : Index := 0#32
  ![v505.toNat, 0]
def k0_dev6 (d0 : Dev nD) : Nat :=
  let c0_i32_332 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_321 : BitVec 32 := 2#32
  let v496 : BitVec 32 := Scalar.xori v2 c2_i32_321
  let c1_i32_331 : BitVec 32 := 1#32
  let v512 : BitVec 32 := Scalar.muli v496 c1_i32_331
  let v513 : BitVec 32 := Scalar.addi c0_i32_332 v512
  v513.toNat
def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_322 : BitVec 32 := 2#32
  let v497 : BitVec 32 := Scalar.andi v2 c2_i32_322
  let c0_i32_323 : BitVec 32 := 0#32
  let v498 : BitVec 1 := Scalar.cmpi .sgt v497 c0_i32_323
  let c1_i32_280 : BitVec 32 := 1#32
  let v451 : BitVec 32 := Scalar.andi v2 c1_i32_280
  let c0_i32_281 : BitVec 32 := 0#32
  let v452 : BitVec 1 := Scalar.cmpi .sgt v451 c0_i32_281
  let c0_i32_284 : BitVec 32 := 0#32
  let c512_i32_285 : BitVec 32 := 512#32
  let v456 : BitVec 32 := Scalar.addi c0_i32_284 c512_i32_285
  let c0_i32_286 : BitVec 32 := 0#32
  let v457 : BitVec 32 := Scalar.select v452 v456 c0_i32_286
  let v458 : BitVec 32 := v457
  let c256_i32_324 : BitVec 32 := 256#32
  let v502 : BitVec 32 := Scalar.addi v458 c256_i32_324
  let v503 : BitVec 32 := Scalar.select v498 v502 v458
  let v504 : BitVec 32 := v503
  let v533 : Index := Scalar.indexCast v504
  let c0_354 : Index := 0#32
  ![v533.toNat, 0]
def k0_mult5 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_360 : BitVec 32 := 4#32
  let v543 : BitVec 32 := Scalar.andi v2 c4_i32_360
  let c0_i32_361 : BitVec 32 := 0#32
  let v544 : BitVec 1 := Scalar.cmpi .sgt v543 c0_i32_361
  let c2_i32_322 : BitVec 32 := 2#32
  let v497 : BitVec 32 := Scalar.andi v2 c2_i32_322
  let c0_i32_323 : BitVec 32 := 0#32
  let v498 : BitVec 1 := Scalar.cmpi .sgt v497 c0_i32_323
  let c1_i32_280 : BitVec 32 := 1#32
  let v451 : BitVec 32 := Scalar.andi v2 c1_i32_280
  let c0_i32_281 : BitVec 32 := 0#32
  let v452 : BitVec 1 := Scalar.cmpi .sgt v451 c0_i32_281
  let c0_i32_284 : BitVec 32 := 0#32
  let c512_i32_285 : BitVec 32 := 512#32
  let v456 : BitVec 32 := Scalar.addi c0_i32_284 c512_i32_285
  let c0_i32_286 : BitVec 32 := 0#32
  let v457 : BitVec 32 := Scalar.select v452 v456 c0_i32_286
  let v458 : BitVec 32 := v457
  let c256_i32_324 : BitVec 32 := 256#32
  let v502 : BitVec 32 := Scalar.addi v458 c256_i32_324
  let v503 : BitVec 32 := Scalar.select v498 v502 v458
  let v504 : BitVec 32 := v503
  let c128_i32_362 : BitVec 32 := 128#32
  let v545 : BitVec 32 := Scalar.addi v504 c128_i32_362
  let v546 : BitVec 32 := Scalar.select v544 v504 v545
  v546
def k0_mult6 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_360 : BitVec 32 := 4#32
  let v543 : BitVec 32 := Scalar.andi v2 c4_i32_360
  let c0_i32_361 : BitVec 32 := 0#32
  let v544 : BitVec 1 := Scalar.cmpi .sgt v543 c0_i32_361
  let c2_i32_322 : BitVec 32 := 2#32
  let v497 : BitVec 32 := Scalar.andi v2 c2_i32_322
  let c0_i32_323 : BitVec 32 := 0#32
  let v498 : BitVec 1 := Scalar.cmpi .sgt v497 c0_i32_323
  let c1_i32_280 : BitVec 32 := 1#32
  let v451 : BitVec 32 := Scalar.andi v2 c1_i32_280
  let c0_i32_281 : BitVec 32 := 0#32
  let v452 : BitVec 1 := Scalar.cmpi .sgt v451 c0_i32_281
  let c0_i32_284 : BitVec 32 := 0#32
  let c512_i32_285 : BitVec 32 := 512#32
  let v456 : BitVec 32 := Scalar.addi c0_i32_284 c512_i32_285
  let c0_i32_286 : BitVec 32 := 0#32
  let v457 : BitVec 32 := Scalar.select v452 v456 c0_i32_286
  let v458 : BitVec 32 := v457
  let c256_i32_324 : BitVec 32 := 256#32
  let v502 : BitVec 32 := Scalar.addi v458 c256_i32_324
  let v503 : BitVec 32 := Scalar.select v498 v502 v458
  let v504 : BitVec 32 := v503
  let c128_i32_363 : BitVec 32 := 128#32
  let v548 : BitVec 32 := Scalar.addi v504 c128_i32_363
  let v549 : BitVec 32 := Scalar.select v544 v548 v504
  v549
def k0_off5 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_360 : BitVec 32 := 4#32
  let v543 : BitVec 32 := Scalar.andi v2 c4_i32_360
  let c0_i32_361 : BitVec 32 := 0#32
  let v544 : BitVec 1 := Scalar.cmpi .sgt v543 c0_i32_361
  let c2_i32_322 : BitVec 32 := 2#32
  let v497 : BitVec 32 := Scalar.andi v2 c2_i32_322
  let c0_i32_323 : BitVec 32 := 0#32
  let v498 : BitVec 1 := Scalar.cmpi .sgt v497 c0_i32_323
  let c1_i32_280 : BitVec 32 := 1#32
  let v451 : BitVec 32 := Scalar.andi v2 c1_i32_280
  let c0_i32_281 : BitVec 32 := 0#32
  let v452 : BitVec 1 := Scalar.cmpi .sgt v451 c0_i32_281
  let c0_i32_284 : BitVec 32 := 0#32
  let c512_i32_285 : BitVec 32 := 512#32
  let v456 : BitVec 32 := Scalar.addi c0_i32_284 c512_i32_285
  let c0_i32_286 : BitVec 32 := 0#32
  let v457 : BitVec 32 := Scalar.select v452 v456 c0_i32_286
  let v458 : BitVec 32 := v457
  let c256_i32_324 : BitVec 32 := 256#32
  let v502 : BitVec 32 := Scalar.addi v458 c256_i32_324
  let v503 : BitVec 32 := Scalar.select v498 v502 v458
  let v504 : BitVec 32 := v503
  let c128_i32_362 : BitVec 32 := 128#32
  let v545 : BitVec 32 := Scalar.addi v504 c128_i32_362
  let v546 : BitVec 32 := Scalar.select v544 v504 v545
  let v547 : BitVec 32 := v546
  let v551 : Index := Scalar.indexCast v547
  let c0_364 : Index := 0#32
  ![v551.toNat, 0]
def k0_dev7 (d0 : Dev nD) : Nat :=
  let c0_i32_371 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_359 : BitVec 32 := 4#32
  let v542 : BitVec 32 := Scalar.xori v2 c4_i32_359
  let c1_i32_370 : BitVec 32 := 1#32
  let v558 : BitVec 32 := Scalar.muli v542 c1_i32_370
  let v559 : BitVec 32 := Scalar.addi c0_i32_371 v558
  v559.toNat
def k0_off6 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_360 : BitVec 32 := 4#32
  let v543 : BitVec 32 := Scalar.andi v2 c4_i32_360
  let c0_i32_361 : BitVec 32 := 0#32
  let v544 : BitVec 1 := Scalar.cmpi .sgt v543 c0_i32_361
  let c2_i32_322 : BitVec 32 := 2#32
  let v497 : BitVec 32 := Scalar.andi v2 c2_i32_322
  let c0_i32_323 : BitVec 32 := 0#32
  let v498 : BitVec 1 := Scalar.cmpi .sgt v497 c0_i32_323
  let c1_i32_280 : BitVec 32 := 1#32
  let v451 : BitVec 32 := Scalar.andi v2 c1_i32_280
  let c0_i32_281 : BitVec 32 := 0#32
  let v452 : BitVec 1 := Scalar.cmpi .sgt v451 c0_i32_281
  let c0_i32_284 : BitVec 32 := 0#32
  let c512_i32_285 : BitVec 32 := 512#32
  let v456 : BitVec 32 := Scalar.addi c0_i32_284 c512_i32_285
  let c0_i32_286 : BitVec 32 := 0#32
  let v457 : BitVec 32 := Scalar.select v452 v456 c0_i32_286
  let v458 : BitVec 32 := v457
  let c256_i32_324 : BitVec 32 := 256#32
  let v502 : BitVec 32 := Scalar.addi v458 c256_i32_324
  let v503 : BitVec 32 := Scalar.select v498 v502 v458
  let v504 : BitVec 32 := v503
  let c128_i32_363 : BitVec 32 := 128#32
  let v548 : BitVec 32 := Scalar.addi v504 c128_i32_363
  let v549 : BitVec 32 := Scalar.select v544 v548 v504
  let v550 : BitVec 32 := v549
  let v579 : Index := Scalar.indexCast v550
  let c0_393 : Index := 0#32
  ![v579.toNat, 0]
def k0_mult7 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_399 : BitVec 32 := 8#32
  let v589 : BitVec 32 := Scalar.andi v2 c8_i32_399
  let c0_i32_400 : BitVec 32 := 0#32
  let v590 : BitVec 1 := Scalar.cmpi .sgt v589 c0_i32_400
  let c4_i32_360 : BitVec 32 := 4#32
  let v543 : BitVec 32 := Scalar.andi v2 c4_i32_360
  let c0_i32_361 : BitVec 32 := 0#32
  let v544 : BitVec 1 := Scalar.cmpi .sgt v543 c0_i32_361
  let c2_i32_322 : BitVec 32 := 2#32
  let v497 : BitVec 32 := Scalar.andi v2 c2_i32_322
  let c0_i32_323 : BitVec 32 := 0#32
  let v498 : BitVec 1 := Scalar.cmpi .sgt v497 c0_i32_323
  let c1_i32_280 : BitVec 32 := 1#32
  let v451 : BitVec 32 := Scalar.andi v2 c1_i32_280
  let c0_i32_281 : BitVec 32 := 0#32
  let v452 : BitVec 1 := Scalar.cmpi .sgt v451 c0_i32_281
  let c0_i32_284 : BitVec 32 := 0#32
  let c512_i32_285 : BitVec 32 := 512#32
  let v456 : BitVec 32 := Scalar.addi c0_i32_284 c512_i32_285
  let c0_i32_286 : BitVec 32 := 0#32
  let v457 : BitVec 32 := Scalar.select v452 v456 c0_i32_286
  let v458 : BitVec 32 := v457
  let c256_i32_324 : BitVec 32 := 256#32
  let v502 : BitVec 32 := Scalar.addi v458 c256_i32_324
  let v503 : BitVec 32 := Scalar.select v498 v502 v458
  let v504 : BitVec 32 := v503
  let c128_i32_363 : BitVec 32 := 128#32
  let v548 : BitVec 32 := Scalar.addi v504 c128_i32_363
  let v549 : BitVec 32 := Scalar.select v544 v548 v504
  let v550 : BitVec 32 := v549
  let c64_i32 : BitVec 32 := 64#32
  let v591 : BitVec 32 := Scalar.addi v550 c64_i32
  let v592 : BitVec 32 := Scalar.select v590 v550 v591
  v592
def k0_mult8 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_399 : BitVec 32 := 8#32
  let v589 : BitVec 32 := Scalar.andi v2 c8_i32_399
  let c0_i32_400 : BitVec 32 := 0#32
  let v590 : BitVec 1 := Scalar.cmpi .sgt v589 c0_i32_400
  let c4_i32_360 : BitVec 32 := 4#32
  let v543 : BitVec 32 := Scalar.andi v2 c4_i32_360
  let c0_i32_361 : BitVec 32 := 0#32
  let v544 : BitVec 1 := Scalar.cmpi .sgt v543 c0_i32_361
  let c2_i32_322 : BitVec 32 := 2#32
  let v497 : BitVec 32 := Scalar.andi v2 c2_i32_322
  let c0_i32_323 : BitVec 32 := 0#32
  let v498 : BitVec 1 := Scalar.cmpi .sgt v497 c0_i32_323
  let c1_i32_280 : BitVec 32 := 1#32
  let v451 : BitVec 32 := Scalar.andi v2 c1_i32_280
  let c0_i32_281 : BitVec 32 := 0#32
  let v452 : BitVec 1 := Scalar.cmpi .sgt v451 c0_i32_281
  let c0_i32_284 : BitVec 32 := 0#32
  let c512_i32_285 : BitVec 32 := 512#32
  let v456 : BitVec 32 := Scalar.addi c0_i32_284 c512_i32_285
  let c0_i32_286 : BitVec 32 := 0#32
  let v457 : BitVec 32 := Scalar.select v452 v456 c0_i32_286
  let v458 : BitVec 32 := v457
  let c256_i32_324 : BitVec 32 := 256#32
  let v502 : BitVec 32 := Scalar.addi v458 c256_i32_324
  let v503 : BitVec 32 := Scalar.select v498 v502 v458
  let v504 : BitVec 32 := v503
  let c128_i32_363 : BitVec 32 := 128#32
  let v548 : BitVec 32 := Scalar.addi v504 c128_i32_363
  let v549 : BitVec 32 := Scalar.select v544 v548 v504
  let v550 : BitVec 32 := v549
  let c64_i32_401 : BitVec 32 := 64#32
  let v594 : BitVec 32 := Scalar.addi v550 c64_i32_401
  let v595 : BitVec 32 := Scalar.select v590 v594 v550
  v595
def k0_off7 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_399 : BitVec 32 := 8#32
  let v589 : BitVec 32 := Scalar.andi v2 c8_i32_399
  let c0_i32_400 : BitVec 32 := 0#32
  let v590 : BitVec 1 := Scalar.cmpi .sgt v589 c0_i32_400
  let c4_i32_360 : BitVec 32 := 4#32
  let v543 : BitVec 32 := Scalar.andi v2 c4_i32_360
  let c0_i32_361 : BitVec 32 := 0#32
  let v544 : BitVec 1 := Scalar.cmpi .sgt v543 c0_i32_361
  let c2_i32_322 : BitVec 32 := 2#32
  let v497 : BitVec 32 := Scalar.andi v2 c2_i32_322
  let c0_i32_323 : BitVec 32 := 0#32
  let v498 : BitVec 1 := Scalar.cmpi .sgt v497 c0_i32_323
  let c1_i32_280 : BitVec 32 := 1#32
  let v451 : BitVec 32 := Scalar.andi v2 c1_i32_280
  let c0_i32_281 : BitVec 32 := 0#32
  let v452 : BitVec 1 := Scalar.cmpi .sgt v451 c0_i32_281
  let c0_i32_284 : BitVec 32 := 0#32
  let c512_i32_285 : BitVec 32 := 512#32
  let v456 : BitVec 32 := Scalar.addi c0_i32_284 c512_i32_285
  let c0_i32_286 : BitVec 32 := 0#32
  let v457 : BitVec 32 := Scalar.select v452 v456 c0_i32_286
  let v458 : BitVec 32 := v457
  let c256_i32_324 : BitVec 32 := 256#32
  let v502 : BitVec 32 := Scalar.addi v458 c256_i32_324
  let v503 : BitVec 32 := Scalar.select v498 v502 v458
  let v504 : BitVec 32 := v503
  let c128_i32_363 : BitVec 32 := 128#32
  let v548 : BitVec 32 := Scalar.addi v504 c128_i32_363
  let v549 : BitVec 32 := Scalar.select v544 v548 v504
  let v550 : BitVec 32 := v549
  let c64_i32 : BitVec 32 := 64#32
  let v591 : BitVec 32 := Scalar.addi v550 c64_i32
  let v592 : BitVec 32 := Scalar.select v590 v550 v591
  let v593 : BitVec 32 := v592
  let v597 : Index := Scalar.indexCast v593
  let c0_402 : Index := 0#32
  ![v597.toNat, 0]
def k0_dev8 (d0 : Dev nD) : Nat :=
  let c0_i32_408 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_398 : BitVec 32 := 8#32
  let v588 : BitVec 32 := Scalar.xori v2 c8_i32_398
  let c1_i32_407 : BitVec 32 := 1#32
  let v604 : BitVec 32 := Scalar.muli v588 c1_i32_407
  let v605 : BitVec 32 := Scalar.addi c0_i32_408 v604
  v605.toNat
def k0_off8 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_399 : BitVec 32 := 8#32
  let v589 : BitVec 32 := Scalar.andi v2 c8_i32_399
  let c0_i32_400 : BitVec 32 := 0#32
  let v590 : BitVec 1 := Scalar.cmpi .sgt v589 c0_i32_400
  let c4_i32_360 : BitVec 32 := 4#32
  let v543 : BitVec 32 := Scalar.andi v2 c4_i32_360
  let c0_i32_361 : BitVec 32 := 0#32
  let v544 : BitVec 1 := Scalar.cmpi .sgt v543 c0_i32_361
  let c2_i32_322 : BitVec 32 := 2#32
  let v497 : BitVec 32 := Scalar.andi v2 c2_i32_322
  let c0_i32_323 : BitVec 32 := 0#32
  let v498 : BitVec 1 := Scalar.cmpi .sgt v497 c0_i32_323
  let c1_i32_280 : BitVec 32 := 1#32
  let v451 : BitVec 32 := Scalar.andi v2 c1_i32_280
  let c0_i32_281 : BitVec 32 := 0#32
  let v452 : BitVec 1 := Scalar.cmpi .sgt v451 c0_i32_281
  let c0_i32_284 : BitVec 32 := 0#32
  let c512_i32_285 : BitVec 32 := 512#32
  let v456 : BitVec 32 := Scalar.addi c0_i32_284 c512_i32_285
  let c0_i32_286 : BitVec 32 := 0#32
  let v457 : BitVec 32 := Scalar.select v452 v456 c0_i32_286
  let v458 : BitVec 32 := v457
  let c256_i32_324 : BitVec 32 := 256#32
  let v502 : BitVec 32 := Scalar.addi v458 c256_i32_324
  let v503 : BitVec 32 := Scalar.select v498 v502 v458
  let v504 : BitVec 32 := v503
  let c128_i32_363 : BitVec 32 := 128#32
  let v548 : BitVec 32 := Scalar.addi v504 c128_i32_363
  let v549 : BitVec 32 := Scalar.select v544 v548 v504
  let v550 : BitVec 32 := v549
  let c64_i32_401 : BitVec 32 := 64#32
  let v594 : BitVec 32 := Scalar.addi v550 c64_i32_401
  let v595 : BitVec 32 := Scalar.select v590 v594 v550
  let v596 : BitVec 32 := v595
  let v625 : Index := Scalar.indexCast v596
  let c0_430 : Index := 0#32
  ![v625.toNat, 0]
def k0_mult9 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_399 : BitVec 32 := 8#32
  let v589 : BitVec 32 := Scalar.andi v2 c8_i32_399
  let c0_i32_400 : BitVec 32 := 0#32
  let v590 : BitVec 1 := Scalar.cmpi .sgt v589 c0_i32_400
  let c4_i32_360 : BitVec 32 := 4#32
  let v543 : BitVec 32 := Scalar.andi v2 c4_i32_360
  let c0_i32_361 : BitVec 32 := 0#32
  let v544 : BitVec 1 := Scalar.cmpi .sgt v543 c0_i32_361
  let c2_i32_322 : BitVec 32 := 2#32
  let v497 : BitVec 32 := Scalar.andi v2 c2_i32_322
  let c0_i32_323 : BitVec 32 := 0#32
  let v498 : BitVec 1 := Scalar.cmpi .sgt v497 c0_i32_323
  let c1_i32_280 : BitVec 32 := 1#32
  let v451 : BitVec 32 := Scalar.andi v2 c1_i32_280
  let c0_i32_281 : BitVec 32 := 0#32
  let v452 : BitVec 1 := Scalar.cmpi .sgt v451 c0_i32_281
  let c0_i32_284 : BitVec 32 := 0#32
  let c512_i32_285 : BitVec 32 := 512#32
  let v456 : BitVec 32 := Scalar.addi c0_i32_284 c512_i32_285
  let c0_i32_286 : BitVec 32 := 0#32
  let v457 : BitVec 32 := Scalar.select v452 v456 c0_i32_286
  let v458 : BitVec 32 := v457
  let c256_i32_324 : BitVec 32 := 256#32
  let v502 : BitVec 32 := Scalar.addi v458 c256_i32_324
  let v503 : BitVec 32 := Scalar.select v498 v502 v458
  let v504 : BitVec 32 := v503
  let c128_i32_363 : BitVec 32 := 128#32
  let v548 : BitVec 32 := Scalar.addi v504 c128_i32_363
  let v549 : BitVec 32 := Scalar.select v544 v548 v504
  let v550 : BitVec 32 := v549
  let c64_i32_401 : BitVec 32 := 64#32
  let v594 : BitVec 32 := Scalar.addi v550 c64_i32_401
  let v595 : BitVec 32 := Scalar.select v590 v594 v550
  let v596 : BitVec 32 := v595
  v596
def k0_off9 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_399 : BitVec 32 := 8#32
  let v589 : BitVec 32 := Scalar.andi v2 c8_i32_399
  let c0_i32_400 : BitVec 32 := 0#32
  let v590 : BitVec 1 := Scalar.cmpi .sgt v589 c0_i32_400
  let c4_i32_360 : BitVec 32 := 4#32
  let v543 : BitVec 32 := Scalar.andi v2 c4_i32_360
  let c0_i32_361 : BitVec 32 := 0#32
  let v544 : BitVec 1 := Scalar.cmpi .sgt v543 c0_i32_361
  let c2_i32_322 : BitVec 32 := 2#32
  let v497 : BitVec 32 := Scalar.andi v2 c2_i32_322
  let c0_i32_323 : BitVec 32 := 0#32
  let v498 : BitVec 1 := Scalar.cmpi .sgt v497 c0_i32_323
  let c1_i32_280 : BitVec 32 := 1#32
  let v451 : BitVec 32 := Scalar.andi v2 c1_i32_280
  let c0_i32_281 : BitVec 32 := 0#32
  let v452 : BitVec 1 := Scalar.cmpi .sgt v451 c0_i32_281
  let c0_i32_284 : BitVec 32 := 0#32
  let c512_i32_285 : BitVec 32 := 512#32
  let v456 : BitVec 32 := Scalar.addi c0_i32_284 c512_i32_285
  let c0_i32_286 : BitVec 32 := 0#32
  let v457 : BitVec 32 := Scalar.select v452 v456 c0_i32_286
  let v458 : BitVec 32 := v457
  let c256_i32_324 : BitVec 32 := 256#32
  let v502 : BitVec 32 := Scalar.addi v458 c256_i32_324
  let v503 : BitVec 32 := Scalar.select v498 v502 v458
  let v504 : BitVec 32 := v503
  let c128_i32_363 : BitVec 32 := 128#32
  let v548 : BitVec 32 := Scalar.addi v504 c128_i32_363
  let v549 : BitVec 32 := Scalar.select v544 v548 v504
  let v550 : BitVec 32 := v549
  let c64_i32_401 : BitVec 32 := 64#32
  let v594 : BitVec 32 := Scalar.addi v550 c64_i32_401
  let v595 : BitVec 32 := Scalar.select v590 v594 v550
  let v596 : BitVec 32 := v595
  let v635 : BitVec 32 := v596
  let v636 : Index := Scalar.indexCast v635
  let c0_436 : Index := 0#32
  ![v636.toNat, 0]
def k0_dev9 (d0 : Dev nD) : Nat :=
  let c0_i32_443 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_435 : BitVec 32 := 8#32
  let v634 : BitVec 32 := Scalar.xori v2 c8_i32_435
  let c1_i32_442 : BitVec 32 := 1#32
  let v643 : BitVec 32 := Scalar.muli v634 c1_i32_442
  let v644 : BitVec 32 := Scalar.addi c0_i32_443 v643
  v644.toNat
def k0_mult10 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_399 : BitVec 32 := 8#32
  let v589 : BitVec 32 := Scalar.andi v2 c8_i32_399
  let c0_i32_400 : BitVec 32 := 0#32
  let v590 : BitVec 1 := Scalar.cmpi .sgt v589 c0_i32_400
  let c4_i32_360 : BitVec 32 := 4#32
  let v543 : BitVec 32 := Scalar.andi v2 c4_i32_360
  let c0_i32_361 : BitVec 32 := 0#32
  let v544 : BitVec 1 := Scalar.cmpi .sgt v543 c0_i32_361
  let c2_i32_322 : BitVec 32 := 2#32
  let v497 : BitVec 32 := Scalar.andi v2 c2_i32_322
  let c0_i32_323 : BitVec 32 := 0#32
  let v498 : BitVec 1 := Scalar.cmpi .sgt v497 c0_i32_323
  let c1_i32_280 : BitVec 32 := 1#32
  let v451 : BitVec 32 := Scalar.andi v2 c1_i32_280
  let c0_i32_281 : BitVec 32 := 0#32
  let v452 : BitVec 1 := Scalar.cmpi .sgt v451 c0_i32_281
  let c0_i32_284 : BitVec 32 := 0#32
  let c512_i32_285 : BitVec 32 := 512#32
  let v456 : BitVec 32 := Scalar.addi c0_i32_284 c512_i32_285
  let c0_i32_286 : BitVec 32 := 0#32
  let v457 : BitVec 32 := Scalar.select v452 v456 c0_i32_286
  let v458 : BitVec 32 := v457
  let c256_i32_324 : BitVec 32 := 256#32
  let v502 : BitVec 32 := Scalar.addi v458 c256_i32_324
  let v503 : BitVec 32 := Scalar.select v498 v502 v458
  let v504 : BitVec 32 := v503
  let c128_i32_363 : BitVec 32 := 128#32
  let v548 : BitVec 32 := Scalar.addi v504 c128_i32_363
  let v549 : BitVec 32 := Scalar.select v544 v548 v504
  let v550 : BitVec 32 := v549
  let c64_i32_401 : BitVec 32 := 64#32
  let v594 : BitVec 32 := Scalar.addi v550 c64_i32_401
  let v595 : BitVec 32 := Scalar.select v590 v594 v550
  let v596 : BitVec 32 := v595
  let v635 : BitVec 32 := v596
  let c64_i32_465 : BitVec 32 := 64#32
  let v664 : BitVec 32 := Scalar.xori v635 c64_i32_465
  v664
def k0_off10 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_399 : BitVec 32 := 8#32
  let v589 : BitVec 32 := Scalar.andi v2 c8_i32_399
  let c0_i32_400 : BitVec 32 := 0#32
  let v590 : BitVec 1 := Scalar.cmpi .sgt v589 c0_i32_400
  let c4_i32_360 : BitVec 32 := 4#32
  let v543 : BitVec 32 := Scalar.andi v2 c4_i32_360
  let c0_i32_361 : BitVec 32 := 0#32
  let v544 : BitVec 1 := Scalar.cmpi .sgt v543 c0_i32_361
  let c2_i32_322 : BitVec 32 := 2#32
  let v497 : BitVec 32 := Scalar.andi v2 c2_i32_322
  let c0_i32_323 : BitVec 32 := 0#32
  let v498 : BitVec 1 := Scalar.cmpi .sgt v497 c0_i32_323
  let c1_i32_280 : BitVec 32 := 1#32
  let v451 : BitVec 32 := Scalar.andi v2 c1_i32_280
  let c0_i32_281 : BitVec 32 := 0#32
  let v452 : BitVec 1 := Scalar.cmpi .sgt v451 c0_i32_281
  let c0_i32_284 : BitVec 32 := 0#32
  let c512_i32_285 : BitVec 32 := 512#32
  let v456 : BitVec 32 := Scalar.addi c0_i32_284 c512_i32_285
  let c0_i32_286 : BitVec 32 := 0#32
  let v457 : BitVec 32 := Scalar.select v452 v456 c0_i32_286
  let v458 : BitVec 32 := v457
  let c256_i32_324 : BitVec 32 := 256#32
  let v502 : BitVec 32 := Scalar.addi v458 c256_i32_324
  let v503 : BitVec 32 := Scalar.select v498 v502 v458
  let v504 : BitVec 32 := v503
  let c128_i32_363 : BitVec 32 := 128#32
  let v548 : BitVec 32 := Scalar.addi v504 c128_i32_363
  let v549 : BitVec 32 := Scalar.select v544 v548 v504
  let v550 : BitVec 32 := v549
  let c64_i32_401 : BitVec 32 := 64#32
  let v594 : BitVec 32 := Scalar.addi v550 c64_i32_401
  let v595 : BitVec 32 := Scalar.select v590 v594 v550
  let v596 : BitVec 32 := v595
  let v635 : BitVec 32 := v596
  let c64_i32_465 : BitVec 32 := 64#32
  let v664 : BitVec 32 := Scalar.xori v635 c64_i32_465
  let v665 : BitVec 32 := v664
  let v669 : Index := Scalar.indexCast v665
  let c0_469 : Index := 0#32
  ![v669.toNat, 0]
def k0_mult11 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_399 : BitVec 32 := 8#32
  let v589 : BitVec 32 := Scalar.andi v2 c8_i32_399
  let c0_i32_400 : BitVec 32 := 0#32
  let v590 : BitVec 1 := Scalar.cmpi .sgt v589 c0_i32_400
  let c4_i32_360 : BitVec 32 := 4#32
  let v543 : BitVec 32 := Scalar.andi v2 c4_i32_360
  let c0_i32_361 : BitVec 32 := 0#32
  let v544 : BitVec 1 := Scalar.cmpi .sgt v543 c0_i32_361
  let c2_i32_322 : BitVec 32 := 2#32
  let v497 : BitVec 32 := Scalar.andi v2 c2_i32_322
  let c0_i32_323 : BitVec 32 := 0#32
  let v498 : BitVec 1 := Scalar.cmpi .sgt v497 c0_i32_323
  let c1_i32_280 : BitVec 32 := 1#32
  let v451 : BitVec 32 := Scalar.andi v2 c1_i32_280
  let c0_i32_281 : BitVec 32 := 0#32
  let v452 : BitVec 1 := Scalar.cmpi .sgt v451 c0_i32_281
  let c0_i32_284 : BitVec 32 := 0#32
  let c512_i32_285 : BitVec 32 := 512#32
  let v456 : BitVec 32 := Scalar.addi c0_i32_284 c512_i32_285
  let c0_i32_286 : BitVec 32 := 0#32
  let v457 : BitVec 32 := Scalar.select v452 v456 c0_i32_286
  let v458 : BitVec 32 := v457
  let c256_i32_324 : BitVec 32 := 256#32
  let v502 : BitVec 32 := Scalar.addi v458 c256_i32_324
  let v503 : BitVec 32 := Scalar.select v498 v502 v458
  let v504 : BitVec 32 := v503
  let c128_i32_363 : BitVec 32 := 128#32
  let v548 : BitVec 32 := Scalar.addi v504 c128_i32_363
  let v549 : BitVec 32 := Scalar.select v544 v548 v504
  let v550 : BitVec 32 := v549
  let c64_i32_401 : BitVec 32 := 64#32
  let v594 : BitVec 32 := Scalar.addi v550 c64_i32_401
  let v595 : BitVec 32 := Scalar.select v590 v594 v550
  let v596 : BitVec 32 := v595
  let v635 : BitVec 32 := v596
  let c_m65_i32 : BitVec 32 := 4294967231#32
  let v671 : BitVec 32 := Scalar.andi v635 c_m65_i32
  v671
def k0_off11 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_399 : BitVec 32 := 8#32
  let v589 : BitVec 32 := Scalar.andi v2 c8_i32_399
  let c0_i32_400 : BitVec 32 := 0#32
  let v590 : BitVec 1 := Scalar.cmpi .sgt v589 c0_i32_400
  let c4_i32_360 : BitVec 32 := 4#32
  let v543 : BitVec 32 := Scalar.andi v2 c4_i32_360
  let c0_i32_361 : BitVec 32 := 0#32
  let v544 : BitVec 1 := Scalar.cmpi .sgt v543 c0_i32_361
  let c2_i32_322 : BitVec 32 := 2#32
  let v497 : BitVec 32 := Scalar.andi v2 c2_i32_322
  let c0_i32_323 : BitVec 32 := 0#32
  let v498 : BitVec 1 := Scalar.cmpi .sgt v497 c0_i32_323
  let c1_i32_280 : BitVec 32 := 1#32
  let v451 : BitVec 32 := Scalar.andi v2 c1_i32_280
  let c0_i32_281 : BitVec 32 := 0#32
  let v452 : BitVec 1 := Scalar.cmpi .sgt v451 c0_i32_281
  let c0_i32_284 : BitVec 32 := 0#32
  let c512_i32_285 : BitVec 32 := 512#32
  let v456 : BitVec 32 := Scalar.addi c0_i32_284 c512_i32_285
  let c0_i32_286 : BitVec 32 := 0#32
  let v457 : BitVec 32 := Scalar.select v452 v456 c0_i32_286
  let v458 : BitVec 32 := v457
  let c256_i32_324 : BitVec 32 := 256#32
  let v502 : BitVec 32 := Scalar.addi v458 c256_i32_324
  let v503 : BitVec 32 := Scalar.select v498 v502 v458
  let v504 : BitVec 32 := v503
  let c128_i32_363 : BitVec 32 := 128#32
  let v548 : BitVec 32 := Scalar.addi v504 c128_i32_363
  let v549 : BitVec 32 := Scalar.select v544 v548 v504
  let v550 : BitVec 32 := v549
  let c64_i32_401 : BitVec 32 := 64#32
  let v594 : BitVec 32 := Scalar.addi v550 c64_i32_401
  let v595 : BitVec 32 := Scalar.select v590 v594 v550
  let v596 : BitVec 32 := v595
  let v635 : BitVec 32 := v596
  let c_m65_i32 : BitVec 32 := 4294967231#32
  let v671 : BitVec 32 := Scalar.andi v635 c_m65_i32
  let v673 : BitVec 32 := v671
  let v674 : Index := Scalar.indexCast v673
  let c0_471 : Index := 0#32
  ![v674.toNat, 0]
def k0_dev10 (d0 : Dev nD) : Nat :=
  let c0_i32_477 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_470 : BitVec 32 := 4#32
  let v672 : BitVec 32 := Scalar.xori v2 c4_i32_470
  let c1_i32_476 : BitVec 32 := 1#32
  let v681 : BitVec 32 := Scalar.muli v672 c1_i32_476
  let v682 : BitVec 32 := Scalar.addi c0_i32_477 v681
  v682.toNat
def k0_mult12 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_399 : BitVec 32 := 8#32
  let v589 : BitVec 32 := Scalar.andi v2 c8_i32_399
  let c0_i32_400 : BitVec 32 := 0#32
  let v590 : BitVec 1 := Scalar.cmpi .sgt v589 c0_i32_400
  let c4_i32_360 : BitVec 32 := 4#32
  let v543 : BitVec 32 := Scalar.andi v2 c4_i32_360
  let c0_i32_361 : BitVec 32 := 0#32
  let v544 : BitVec 1 := Scalar.cmpi .sgt v543 c0_i32_361
  let c2_i32_322 : BitVec 32 := 2#32
  let v497 : BitVec 32 := Scalar.andi v2 c2_i32_322
  let c0_i32_323 : BitVec 32 := 0#32
  let v498 : BitVec 1 := Scalar.cmpi .sgt v497 c0_i32_323
  let c1_i32_280 : BitVec 32 := 1#32
  let v451 : BitVec 32 := Scalar.andi v2 c1_i32_280
  let c0_i32_281 : BitVec 32 := 0#32
  let v452 : BitVec 1 := Scalar.cmpi .sgt v451 c0_i32_281
  let c0_i32_284 : BitVec 32 := 0#32
  let c512_i32_285 : BitVec 32 := 512#32
  let v456 : BitVec 32 := Scalar.addi c0_i32_284 c512_i32_285
  let c0_i32_286 : BitVec 32 := 0#32
  let v457 : BitVec 32 := Scalar.select v452 v456 c0_i32_286
  let v458 : BitVec 32 := v457
  let c256_i32_324 : BitVec 32 := 256#32
  let v502 : BitVec 32 := Scalar.addi v458 c256_i32_324
  let v503 : BitVec 32 := Scalar.select v498 v502 v458
  let v504 : BitVec 32 := v503
  let c128_i32_363 : BitVec 32 := 128#32
  let v548 : BitVec 32 := Scalar.addi v504 c128_i32_363
  let v549 : BitVec 32 := Scalar.select v544 v548 v504
  let v550 : BitVec 32 := v549
  let c64_i32_401 : BitVec 32 := 64#32
  let v594 : BitVec 32 := Scalar.addi v550 c64_i32_401
  let v595 : BitVec 32 := Scalar.select v590 v594 v550
  let v596 : BitVec 32 := v595
  let v635 : BitVec 32 := v596
  let c_m65_i32 : BitVec 32 := 4294967231#32
  let v671 : BitVec 32 := Scalar.andi v635 c_m65_i32
  let v673 : BitVec 32 := v671
  let c128_i32_499 : BitVec 32 := 128#32
  let v702 : BitVec 32 := Scalar.xori v673 c128_i32_499
  v702
def k0_off12 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_399 : BitVec 32 := 8#32
  let v589 : BitVec 32 := Scalar.andi v2 c8_i32_399
  let c0_i32_400 : BitVec 32 := 0#32
  let v590 : BitVec 1 := Scalar.cmpi .sgt v589 c0_i32_400
  let c4_i32_360 : BitVec 32 := 4#32
  let v543 : BitVec 32 := Scalar.andi v2 c4_i32_360
  let c0_i32_361 : BitVec 32 := 0#32
  let v544 : BitVec 1 := Scalar.cmpi .sgt v543 c0_i32_361
  let c2_i32_322 : BitVec 32 := 2#32
  let v497 : BitVec 32 := Scalar.andi v2 c2_i32_322
  let c0_i32_323 : BitVec 32 := 0#32
  let v498 : BitVec 1 := Scalar.cmpi .sgt v497 c0_i32_323
  let c1_i32_280 : BitVec 32 := 1#32
  let v451 : BitVec 32 := Scalar.andi v2 c1_i32_280
  let c0_i32_281 : BitVec 32 := 0#32
  let v452 : BitVec 1 := Scalar.cmpi .sgt v451 c0_i32_281
  let c0_i32_284 : BitVec 32 := 0#32
  let c512_i32_285 : BitVec 32 := 512#32
  let v456 : BitVec 32 := Scalar.addi c0_i32_284 c512_i32_285
  let c0_i32_286 : BitVec 32 := 0#32
  let v457 : BitVec 32 := Scalar.select v452 v456 c0_i32_286
  let v458 : BitVec 32 := v457
  let c256_i32_324 : BitVec 32 := 256#32
  let v502 : BitVec 32 := Scalar.addi v458 c256_i32_324
  let v503 : BitVec 32 := Scalar.select v498 v502 v458
  let v504 : BitVec 32 := v503
  let c128_i32_363 : BitVec 32 := 128#32
  let v548 : BitVec 32 := Scalar.addi v504 c128_i32_363
  let v549 : BitVec 32 := Scalar.select v544 v548 v504
  let v550 : BitVec 32 := v549
  let c64_i32_401 : BitVec 32 := 64#32
  let v594 : BitVec 32 := Scalar.addi v550 c64_i32_401
  let v595 : BitVec 32 := Scalar.select v590 v594 v550
  let v596 : BitVec 32 := v595
  let v635 : BitVec 32 := v596
  let c_m65_i32 : BitVec 32 := 4294967231#32
  let v671 : BitVec 32 := Scalar.andi v635 c_m65_i32
  let v673 : BitVec 32 := v671
  let c128_i32_499 : BitVec 32 := 128#32
  let v702 : BitVec 32 := Scalar.xori v673 c128_i32_499
  let v703 : BitVec 32 := v702
  let v707 : Index := Scalar.indexCast v703
  let c0_503 : Index := 0#32
  ![v707.toNat, 0]
def k0_mult13 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_399 : BitVec 32 := 8#32
  let v589 : BitVec 32 := Scalar.andi v2 c8_i32_399
  let c0_i32_400 : BitVec 32 := 0#32
  let v590 : BitVec 1 := Scalar.cmpi .sgt v589 c0_i32_400
  let c4_i32_360 : BitVec 32 := 4#32
  let v543 : BitVec 32 := Scalar.andi v2 c4_i32_360
  let c0_i32_361 : BitVec 32 := 0#32
  let v544 : BitVec 1 := Scalar.cmpi .sgt v543 c0_i32_361
  let c2_i32_322 : BitVec 32 := 2#32
  let v497 : BitVec 32 := Scalar.andi v2 c2_i32_322
  let c0_i32_323 : BitVec 32 := 0#32
  let v498 : BitVec 1 := Scalar.cmpi .sgt v497 c0_i32_323
  let c1_i32_280 : BitVec 32 := 1#32
  let v451 : BitVec 32 := Scalar.andi v2 c1_i32_280
  let c0_i32_281 : BitVec 32 := 0#32
  let v452 : BitVec 1 := Scalar.cmpi .sgt v451 c0_i32_281
  let c0_i32_284 : BitVec 32 := 0#32
  let c512_i32_285 : BitVec 32 := 512#32
  let v456 : BitVec 32 := Scalar.addi c0_i32_284 c512_i32_285
  let c0_i32_286 : BitVec 32 := 0#32
  let v457 : BitVec 32 := Scalar.select v452 v456 c0_i32_286
  let v458 : BitVec 32 := v457
  let c256_i32_324 : BitVec 32 := 256#32
  let v502 : BitVec 32 := Scalar.addi v458 c256_i32_324
  let v503 : BitVec 32 := Scalar.select v498 v502 v458
  let v504 : BitVec 32 := v503
  let c128_i32_363 : BitVec 32 := 128#32
  let v548 : BitVec 32 := Scalar.addi v504 c128_i32_363
  let v549 : BitVec 32 := Scalar.select v544 v548 v504
  let v550 : BitVec 32 := v549
  let c64_i32_401 : BitVec 32 := 64#32
  let v594 : BitVec 32 := Scalar.addi v550 c64_i32_401
  let v595 : BitVec 32 := Scalar.select v590 v594 v550
  let v596 : BitVec 32 := v595
  let v635 : BitVec 32 := v596
  let c_m65_i32 : BitVec 32 := 4294967231#32
  let v671 : BitVec 32 := Scalar.andi v635 c_m65_i32
  let v673 : BitVec 32 := v671
  let c_m129_i32 : BitVec 32 := 4294967167#32
  let v709 : BitVec 32 := Scalar.andi v673 c_m129_i32
  v709
def k0_off13 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_399 : BitVec 32 := 8#32
  let v589 : BitVec 32 := Scalar.andi v2 c8_i32_399
  let c0_i32_400 : BitVec 32 := 0#32
  let v590 : BitVec 1 := Scalar.cmpi .sgt v589 c0_i32_400
  let c4_i32_360 : BitVec 32 := 4#32
  let v543 : BitVec 32 := Scalar.andi v2 c4_i32_360
  let c0_i32_361 : BitVec 32 := 0#32
  let v544 : BitVec 1 := Scalar.cmpi .sgt v543 c0_i32_361
  let c2_i32_322 : BitVec 32 := 2#32
  let v497 : BitVec 32 := Scalar.andi v2 c2_i32_322
  let c0_i32_323 : BitVec 32 := 0#32
  let v498 : BitVec 1 := Scalar.cmpi .sgt v497 c0_i32_323
  let c1_i32_280 : BitVec 32 := 1#32
  let v451 : BitVec 32 := Scalar.andi v2 c1_i32_280
  let c0_i32_281 : BitVec 32 := 0#32
  let v452 : BitVec 1 := Scalar.cmpi .sgt v451 c0_i32_281
  let c0_i32_284 : BitVec 32 := 0#32
  let c512_i32_285 : BitVec 32 := 512#32
  let v456 : BitVec 32 := Scalar.addi c0_i32_284 c512_i32_285
  let c0_i32_286 : BitVec 32 := 0#32
  let v457 : BitVec 32 := Scalar.select v452 v456 c0_i32_286
  let v458 : BitVec 32 := v457
  let c256_i32_324 : BitVec 32 := 256#32
  let v502 : BitVec 32 := Scalar.addi v458 c256_i32_324
  let v503 : BitVec 32 := Scalar.select v498 v502 v458
  let v504 : BitVec 32 := v503
  let c128_i32_363 : BitVec 32 := 128#32
  let v548 : BitVec 32 := Scalar.addi v504 c128_i32_363
  let v549 : BitVec 32 := Scalar.select v544 v548 v504
  let v550 : BitVec 32 := v549
  let c64_i32_401 : BitVec 32 := 64#32
  let v594 : BitVec 32 := Scalar.addi v550 c64_i32_401
  let v595 : BitVec 32 := Scalar.select v590 v594 v550
  let v596 : BitVec 32 := v595
  let v635 : BitVec 32 := v596
  let c_m65_i32 : BitVec 32 := 4294967231#32
  let v671 : BitVec 32 := Scalar.andi v635 c_m65_i32
  let v673 : BitVec 32 := v671
  let c_m129_i32 : BitVec 32 := 4294967167#32
  let v709 : BitVec 32 := Scalar.andi v673 c_m129_i32
  let v711 : BitVec 32 := v709
  let v712 : Index := Scalar.indexCast v711
  let c0_505 : Index := 0#32
  ![v712.toNat, 0]
def k0_dev11 (d0 : Dev nD) : Nat :=
  let c0_i32_511 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_504 : BitVec 32 := 2#32
  let v710 : BitVec 32 := Scalar.xori v2 c2_i32_504
  let c1_i32_510 : BitVec 32 := 1#32
  let v719 : BitVec 32 := Scalar.muli v710 c1_i32_510
  let v720 : BitVec 32 := Scalar.addi c0_i32_511 v719
  v720.toNat
def k0_mult14 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_399 : BitVec 32 := 8#32
  let v589 : BitVec 32 := Scalar.andi v2 c8_i32_399
  let c0_i32_400 : BitVec 32 := 0#32
  let v590 : BitVec 1 := Scalar.cmpi .sgt v589 c0_i32_400
  let c4_i32_360 : BitVec 32 := 4#32
  let v543 : BitVec 32 := Scalar.andi v2 c4_i32_360
  let c0_i32_361 : BitVec 32 := 0#32
  let v544 : BitVec 1 := Scalar.cmpi .sgt v543 c0_i32_361
  let c2_i32_322 : BitVec 32 := 2#32
  let v497 : BitVec 32 := Scalar.andi v2 c2_i32_322
  let c0_i32_323 : BitVec 32 := 0#32
  let v498 : BitVec 1 := Scalar.cmpi .sgt v497 c0_i32_323
  let c1_i32_280 : BitVec 32 := 1#32
  let v451 : BitVec 32 := Scalar.andi v2 c1_i32_280
  let c0_i32_281 : BitVec 32 := 0#32
  let v452 : BitVec 1 := Scalar.cmpi .sgt v451 c0_i32_281
  let c0_i32_284 : BitVec 32 := 0#32
  let c512_i32_285 : BitVec 32 := 512#32
  let v456 : BitVec 32 := Scalar.addi c0_i32_284 c512_i32_285
  let c0_i32_286 : BitVec 32 := 0#32
  let v457 : BitVec 32 := Scalar.select v452 v456 c0_i32_286
  let v458 : BitVec 32 := v457
  let c256_i32_324 : BitVec 32 := 256#32
  let v502 : BitVec 32 := Scalar.addi v458 c256_i32_324
  let v503 : BitVec 32 := Scalar.select v498 v502 v458
  let v504 : BitVec 32 := v503
  let c128_i32_363 : BitVec 32 := 128#32
  let v548 : BitVec 32 := Scalar.addi v504 c128_i32_363
  let v549 : BitVec 32 := Scalar.select v544 v548 v504
  let v550 : BitVec 32 := v549
  let c64_i32_401 : BitVec 32 := 64#32
  let v594 : BitVec 32 := Scalar.addi v550 c64_i32_401
  let v595 : BitVec 32 := Scalar.select v590 v594 v550
  let v596 : BitVec 32 := v595
  let v635 : BitVec 32 := v596
  let c_m65_i32 : BitVec 32 := 4294967231#32
  let v671 : BitVec 32 := Scalar.andi v635 c_m65_i32
  let v673 : BitVec 32 := v671
  let c_m129_i32 : BitVec 32 := 4294967167#32
  let v709 : BitVec 32 := Scalar.andi v673 c_m129_i32
  let v711 : BitVec 32 := v709
  let c256_i32_533 : BitVec 32 := 256#32
  let v740 : BitVec 32 := Scalar.xori v711 c256_i32_533
  v740
def k0_off14 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_399 : BitVec 32 := 8#32
  let v589 : BitVec 32 := Scalar.andi v2 c8_i32_399
  let c0_i32_400 : BitVec 32 := 0#32
  let v590 : BitVec 1 := Scalar.cmpi .sgt v589 c0_i32_400
  let c4_i32_360 : BitVec 32 := 4#32
  let v543 : BitVec 32 := Scalar.andi v2 c4_i32_360
  let c0_i32_361 : BitVec 32 := 0#32
  let v544 : BitVec 1 := Scalar.cmpi .sgt v543 c0_i32_361
  let c2_i32_322 : BitVec 32 := 2#32
  let v497 : BitVec 32 := Scalar.andi v2 c2_i32_322
  let c0_i32_323 : BitVec 32 := 0#32
  let v498 : BitVec 1 := Scalar.cmpi .sgt v497 c0_i32_323
  let c1_i32_280 : BitVec 32 := 1#32
  let v451 : BitVec 32 := Scalar.andi v2 c1_i32_280
  let c0_i32_281 : BitVec 32 := 0#32
  let v452 : BitVec 1 := Scalar.cmpi .sgt v451 c0_i32_281
  let c0_i32_284 : BitVec 32 := 0#32
  let c512_i32_285 : BitVec 32 := 512#32
  let v456 : BitVec 32 := Scalar.addi c0_i32_284 c512_i32_285
  let c0_i32_286 : BitVec 32 := 0#32
  let v457 : BitVec 32 := Scalar.select v452 v456 c0_i32_286
  let v458 : BitVec 32 := v457
  let c256_i32_324 : BitVec 32 := 256#32
  let v502 : BitVec 32 := Scalar.addi v458 c256_i32_324
  let v503 : BitVec 32 := Scalar.select v498 v502 v458
  let v504 : BitVec 32 := v503
  let c128_i32_363 : BitVec 32 := 128#32
  let v548 : BitVec 32 := Scalar.addi v504 c128_i32_363
  let v549 : BitVec 32 := Scalar.select v544 v548 v504
  let v550 : BitVec 32 := v549
  let c64_i32_401 : BitVec 32 := 64#32
  let v594 : BitVec 32 := Scalar.addi v550 c64_i32_401
  let v595 : BitVec 32 := Scalar.select v590 v594 v550
  let v596 : BitVec 32 := v595
  let v635 : BitVec 32 := v596
  let c_m65_i32 : BitVec 32 := 4294967231#32
  let v671 : BitVec 32 := Scalar.andi v635 c_m65_i32
  let v673 : BitVec 32 := v671
  let c_m129_i32 : BitVec 32 := 4294967167#32
  let v709 : BitVec 32 := Scalar.andi v673 c_m129_i32
  let v711 : BitVec 32 := v709
  let c256_i32_533 : BitVec 32 := 256#32
  let v740 : BitVec 32 := Scalar.xori v711 c256_i32_533
  let v741 : BitVec 32 := v740
  let v745 : Index := Scalar.indexCast v741
  let c0_537 : Index := 0#32
  ![v745.toNat, 0]
def k0_mult15 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_399 : BitVec 32 := 8#32
  let v589 : BitVec 32 := Scalar.andi v2 c8_i32_399
  let c0_i32_400 : BitVec 32 := 0#32
  let v590 : BitVec 1 := Scalar.cmpi .sgt v589 c0_i32_400
  let c4_i32_360 : BitVec 32 := 4#32
  let v543 : BitVec 32 := Scalar.andi v2 c4_i32_360
  let c0_i32_361 : BitVec 32 := 0#32
  let v544 : BitVec 1 := Scalar.cmpi .sgt v543 c0_i32_361
  let c2_i32_322 : BitVec 32 := 2#32
  let v497 : BitVec 32 := Scalar.andi v2 c2_i32_322
  let c0_i32_323 : BitVec 32 := 0#32
  let v498 : BitVec 1 := Scalar.cmpi .sgt v497 c0_i32_323
  let c1_i32_280 : BitVec 32 := 1#32
  let v451 : BitVec 32 := Scalar.andi v2 c1_i32_280
  let c0_i32_281 : BitVec 32 := 0#32
  let v452 : BitVec 1 := Scalar.cmpi .sgt v451 c0_i32_281
  let c0_i32_284 : BitVec 32 := 0#32
  let c512_i32_285 : BitVec 32 := 512#32
  let v456 : BitVec 32 := Scalar.addi c0_i32_284 c512_i32_285
  let c0_i32_286 : BitVec 32 := 0#32
  let v457 : BitVec 32 := Scalar.select v452 v456 c0_i32_286
  let v458 : BitVec 32 := v457
  let c256_i32_324 : BitVec 32 := 256#32
  let v502 : BitVec 32 := Scalar.addi v458 c256_i32_324
  let v503 : BitVec 32 := Scalar.select v498 v502 v458
  let v504 : BitVec 32 := v503
  let c128_i32_363 : BitVec 32 := 128#32
  let v548 : BitVec 32 := Scalar.addi v504 c128_i32_363
  let v549 : BitVec 32 := Scalar.select v544 v548 v504
  let v550 : BitVec 32 := v549
  let c64_i32_401 : BitVec 32 := 64#32
  let v594 : BitVec 32 := Scalar.addi v550 c64_i32_401
  let v595 : BitVec 32 := Scalar.select v590 v594 v550
  let v596 : BitVec 32 := v595
  let v635 : BitVec 32 := v596
  let c_m65_i32 : BitVec 32 := 4294967231#32
  let v671 : BitVec 32 := Scalar.andi v635 c_m65_i32
  let v673 : BitVec 32 := v671
  let c_m129_i32 : BitVec 32 := 4294967167#32
  let v709 : BitVec 32 := Scalar.andi v673 c_m129_i32
  let v711 : BitVec 32 := v709
  let c_m257_i32 : BitVec 32 := 4294967039#32
  let v747 : BitVec 32 := Scalar.andi v711 c_m257_i32
  v747
def k0_off15 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_399 : BitVec 32 := 8#32
  let v589 : BitVec 32 := Scalar.andi v2 c8_i32_399
  let c0_i32_400 : BitVec 32 := 0#32
  let v590 : BitVec 1 := Scalar.cmpi .sgt v589 c0_i32_400
  let c4_i32_360 : BitVec 32 := 4#32
  let v543 : BitVec 32 := Scalar.andi v2 c4_i32_360
  let c0_i32_361 : BitVec 32 := 0#32
  let v544 : BitVec 1 := Scalar.cmpi .sgt v543 c0_i32_361
  let c2_i32_322 : BitVec 32 := 2#32
  let v497 : BitVec 32 := Scalar.andi v2 c2_i32_322
  let c0_i32_323 : BitVec 32 := 0#32
  let v498 : BitVec 1 := Scalar.cmpi .sgt v497 c0_i32_323
  let c1_i32_280 : BitVec 32 := 1#32
  let v451 : BitVec 32 := Scalar.andi v2 c1_i32_280
  let c0_i32_281 : BitVec 32 := 0#32
  let v452 : BitVec 1 := Scalar.cmpi .sgt v451 c0_i32_281
  let c0_i32_284 : BitVec 32 := 0#32
  let c512_i32_285 : BitVec 32 := 512#32
  let v456 : BitVec 32 := Scalar.addi c0_i32_284 c512_i32_285
  let c0_i32_286 : BitVec 32 := 0#32
  let v457 : BitVec 32 := Scalar.select v452 v456 c0_i32_286
  let v458 : BitVec 32 := v457
  let c256_i32_324 : BitVec 32 := 256#32
  let v502 : BitVec 32 := Scalar.addi v458 c256_i32_324
  let v503 : BitVec 32 := Scalar.select v498 v502 v458
  let v504 : BitVec 32 := v503
  let c128_i32_363 : BitVec 32 := 128#32
  let v548 : BitVec 32 := Scalar.addi v504 c128_i32_363
  let v549 : BitVec 32 := Scalar.select v544 v548 v504
  let v550 : BitVec 32 := v549
  let c64_i32_401 : BitVec 32 := 64#32
  let v594 : BitVec 32 := Scalar.addi v550 c64_i32_401
  let v595 : BitVec 32 := Scalar.select v590 v594 v550
  let v596 : BitVec 32 := v595
  let v635 : BitVec 32 := v596
  let c_m65_i32 : BitVec 32 := 4294967231#32
  let v671 : BitVec 32 := Scalar.andi v635 c_m65_i32
  let v673 : BitVec 32 := v671
  let c_m129_i32 : BitVec 32 := 4294967167#32
  let v709 : BitVec 32 := Scalar.andi v673 c_m129_i32
  let v711 : BitVec 32 := v709
  let c_m257_i32 : BitVec 32 := 4294967039#32
  let v747 : BitVec 32 := Scalar.andi v711 c_m257_i32
  let v749 : BitVec 32 := v747
  let v750 : Index := Scalar.indexCast v749
  let c0_539 : Index := 0#32
  ![v750.toNat, 0]
def k0_dev12 (d0 : Dev nD) : Nat :=
  let c0_i32_545 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_538 : BitVec 32 := 1#32
  let v748 : BitVec 32 := Scalar.xori v2 c1_i32_538
  let c1_i32_544 : BitVec 32 := 1#32
  let v757 : BitVec 32 := Scalar.muli v748 c1_i32_544
  let v758 : BitVec 32 := Scalar.addi c0_i32_545 v757
  v758.toNat
def k0_mult16 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_399 : BitVec 32 := 8#32
  let v589 : BitVec 32 := Scalar.andi v2 c8_i32_399
  let c0_i32_400 : BitVec 32 := 0#32
  let v590 : BitVec 1 := Scalar.cmpi .sgt v589 c0_i32_400
  let c4_i32_360 : BitVec 32 := 4#32
  let v543 : BitVec 32 := Scalar.andi v2 c4_i32_360
  let c0_i32_361 : BitVec 32 := 0#32
  let v544 : BitVec 1 := Scalar.cmpi .sgt v543 c0_i32_361
  let c2_i32_322 : BitVec 32 := 2#32
  let v497 : BitVec 32 := Scalar.andi v2 c2_i32_322
  let c0_i32_323 : BitVec 32 := 0#32
  let v498 : BitVec 1 := Scalar.cmpi .sgt v497 c0_i32_323
  let c1_i32_280 : BitVec 32 := 1#32
  let v451 : BitVec 32 := Scalar.andi v2 c1_i32_280
  let c0_i32_281 : BitVec 32 := 0#32
  let v452 : BitVec 1 := Scalar.cmpi .sgt v451 c0_i32_281
  let c0_i32_284 : BitVec 32 := 0#32
  let c512_i32_285 : BitVec 32 := 512#32
  let v456 : BitVec 32 := Scalar.addi c0_i32_284 c512_i32_285
  let c0_i32_286 : BitVec 32 := 0#32
  let v457 : BitVec 32 := Scalar.select v452 v456 c0_i32_286
  let v458 : BitVec 32 := v457
  let c256_i32_324 : BitVec 32 := 256#32
  let v502 : BitVec 32 := Scalar.addi v458 c256_i32_324
  let v503 : BitVec 32 := Scalar.select v498 v502 v458
  let v504 : BitVec 32 := v503
  let c128_i32_363 : BitVec 32 := 128#32
  let v548 : BitVec 32 := Scalar.addi v504 c128_i32_363
  let v549 : BitVec 32 := Scalar.select v544 v548 v504
  let v550 : BitVec 32 := v549
  let c64_i32_401 : BitVec 32 := 64#32
  let v594 : BitVec 32 := Scalar.addi v550 c64_i32_401
  let v595 : BitVec 32 := Scalar.select v590 v594 v550
  let v596 : BitVec 32 := v595
  let v635 : BitVec 32 := v596
  let c_m65_i32 : BitVec 32 := 4294967231#32
  let v671 : BitVec 32 := Scalar.andi v635 c_m65_i32
  let v673 : BitVec 32 := v671
  let c_m129_i32 : BitVec 32 := 4294967167#32
  let v709 : BitVec 32 := Scalar.andi v673 c_m129_i32
  let v711 : BitVec 32 := v709
  let c_m257_i32 : BitVec 32 := 4294967039#32
  let v747 : BitVec 32 := Scalar.andi v711 c_m257_i32
  let v749 : BitVec 32 := v747
  let c512_i32_567 : BitVec 32 := 512#32
  let v778 : BitVec 32 := Scalar.xori v749 c512_i32_567
  v778
def k0_off16 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_399 : BitVec 32 := 8#32
  let v589 : BitVec 32 := Scalar.andi v2 c8_i32_399
  let c0_i32_400 : BitVec 32 := 0#32
  let v590 : BitVec 1 := Scalar.cmpi .sgt v589 c0_i32_400
  let c4_i32_360 : BitVec 32 := 4#32
  let v543 : BitVec 32 := Scalar.andi v2 c4_i32_360
  let c0_i32_361 : BitVec 32 := 0#32
  let v544 : BitVec 1 := Scalar.cmpi .sgt v543 c0_i32_361
  let c2_i32_322 : BitVec 32 := 2#32
  let v497 : BitVec 32 := Scalar.andi v2 c2_i32_322
  let c0_i32_323 : BitVec 32 := 0#32
  let v498 : BitVec 1 := Scalar.cmpi .sgt v497 c0_i32_323
  let c1_i32_280 : BitVec 32 := 1#32
  let v451 : BitVec 32 := Scalar.andi v2 c1_i32_280
  let c0_i32_281 : BitVec 32 := 0#32
  let v452 : BitVec 1 := Scalar.cmpi .sgt v451 c0_i32_281
  let c0_i32_284 : BitVec 32 := 0#32
  let c512_i32_285 : BitVec 32 := 512#32
  let v456 : BitVec 32 := Scalar.addi c0_i32_284 c512_i32_285
  let c0_i32_286 : BitVec 32 := 0#32
  let v457 : BitVec 32 := Scalar.select v452 v456 c0_i32_286
  let v458 : BitVec 32 := v457
  let c256_i32_324 : BitVec 32 := 256#32
  let v502 : BitVec 32 := Scalar.addi v458 c256_i32_324
  let v503 : BitVec 32 := Scalar.select v498 v502 v458
  let v504 : BitVec 32 := v503
  let c128_i32_363 : BitVec 32 := 128#32
  let v548 : BitVec 32 := Scalar.addi v504 c128_i32_363
  let v549 : BitVec 32 := Scalar.select v544 v548 v504
  let v550 : BitVec 32 := v549
  let c64_i32_401 : BitVec 32 := 64#32
  let v594 : BitVec 32 := Scalar.addi v550 c64_i32_401
  let v595 : BitVec 32 := Scalar.select v590 v594 v550
  let v596 : BitVec 32 := v595
  let v635 : BitVec 32 := v596
  let c_m65_i32 : BitVec 32 := 4294967231#32
  let v671 : BitVec 32 := Scalar.andi v635 c_m65_i32
  let v673 : BitVec 32 := v671
  let c_m129_i32 : BitVec 32 := 4294967167#32
  let v709 : BitVec 32 := Scalar.andi v673 c_m129_i32
  let v711 : BitVec 32 := v709
  let c_m257_i32 : BitVec 32 := 4294967039#32
  let v747 : BitVec 32 := Scalar.andi v711 c_m257_i32
  let v749 : BitVec 32 := v747
  let c512_i32_567 : BitVec 32 := 512#32
  let v778 : BitVec 32 := Scalar.xori v749 c512_i32_567
  let v779 : BitVec 32 := v778
  let v783 : Index := Scalar.indexCast v779
  let c0_571 : Index := 0#32
  ![v783.toNat, 0]
abbrev stage0_0 : Fin 1 → Memref sig .tc .vmem S2x512x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512x8x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x512x8x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x512x768 : Shape := ⟨3, ![2, 512, 768]⟩
abbrev S768x8192 : Shape := ⟨2, ![768, 8192]⟩
abbrev S2x512x128x64 : Shape := ⟨4, ![2, 512, 128, 64]⟩
abbrev S8192x768 : Shape := ⟨2, ![8192, 768]⟩
abbrev S2x512x8192 : Shape := ⟨3, ![2, 512, 8192]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S_ : Shape := ⟨0, ![]⟩
abbrev S2x128x512x512 : Shape := ⟨4, ![2, 128, 512, 512]⟩
abbrev S1x1x512x512 : Shape := ⟨4, ![1, 1, 512, 512]⟩
abbrev S2x128x512 : Shape := ⟨3, ![2, 128, 512]⟩
abbrev S2x128x512x1 : Shape := ⟨4, ![2, 128, 512, 1]⟩
abbrev S1x1x512x1 : Shape := ⟨4, ![1, 1, 512, 1]⟩
abbrev S2x128x64x512 : Shape := ⟨4, ![2, 128, 64, 512]⟩

abbrev nBuf : Space → Nat
  | .hbm => 67
  | .vmem => 0
  | .smem => 0
  | _ => 0

abbrev bufTy : (tb : Table) → Fin (tcTables nBuf tb) → BufTy
  | .hbm, ⟨0, _⟩ => ⟨S2x512x768, .f32⟩
  | .hbm, ⟨1, _⟩ => ⟨S768x8192, .f32⟩
  | .hbm, ⟨2, _⟩ => ⟨S2x512x128x64, .f32⟩
  | .hbm, ⟨3, _⟩ => ⟨S2x512x128x64, .f32⟩
  | .hbm, ⟨4, _⟩ => ⟨S8192x768, .f32⟩
  | .hbm, ⟨5, _⟩ => ⟨S2x512x8192, .f32⟩
  | .hbm, ⟨6, _⟩ => ⟨S2x512x128x64, .f32⟩
  | .hbm, ⟨7, _⟩ => ⟨S512, .i32⟩
  | .hbm, ⟨8, _⟩ => ⟨S512x1, .i32⟩
  | .hbm, ⟨9, _⟩ => ⟨S512, .i32⟩
  | .hbm, ⟨10, _⟩ => ⟨S1x512, .i32⟩
  | .hbm, ⟨11, _⟩ => ⟨S512x512, .i32⟩
  | .hbm, ⟨12, _⟩ => ⟨S512x512, .i32⟩
  | .hbm, ⟨13, _⟩ => ⟨S512x512, .i32⟩
  | .hbm, ⟨14, _⟩ => ⟨S512x512, .i32⟩
  | .hbm, ⟨15, _⟩ => ⟨S_, .i32⟩
  | .hbm, ⟨16, _⟩ => ⟨S512x512, .i32⟩
  | .hbm, ⟨17, _⟩ => ⟨S512x512, .i1⟩
  | .hbm, ⟨18, _⟩ => ⟨S_, .i32⟩
  | .hbm, ⟨19, _⟩ => ⟨S1x512, .i32⟩
  | .hbm, ⟨20, _⟩ => ⟨S1x512, .i1⟩
  | .hbm, ⟨21, _⟩ => ⟨S_, .i32⟩
  | .hbm, ⟨22, _⟩ => ⟨S512x1, .i32⟩
  | .hbm, ⟨23, _⟩ => ⟨S512x1, .i1⟩
  | .hbm, ⟨24, _⟩ => ⟨S512x512, .i1⟩
  | .hbm, ⟨25, _⟩ => ⟨S512x512, .i1⟩
  | .hbm, ⟨26, _⟩ => ⟨S512x512, .i1⟩
  | .hbm, ⟨27, _⟩ => ⟨S512x512, .i1⟩
  | .hbm, ⟨28, _⟩ => ⟨S2x128x512x512, .f32⟩
  | .hbm, ⟨29, _⟩ => ⟨S_, .f32⟩
  | .hbm, ⟨30, _⟩ => ⟨S2x128x512x512, .f32⟩
  | .hbm, ⟨31, _⟩ => ⟨S2x128x512x512, .f32⟩
  | .hbm, ⟨32, _⟩ => ⟨S1x1x512x512, .i1⟩
  | .hbm, ⟨33, _⟩ => ⟨S_, .f32⟩
  | .hbm, ⟨34, _⟩ => ⟨S_, .f32⟩
  | .hbm, ⟨35, _⟩ => ⟨S2x128x512x512, .i1⟩
  | .hbm, ⟨36, _⟩ => ⟨S2x128x512x512, .f32⟩
  | .hbm, ⟨37, _⟩ => ⟨S2x128x512x512, .f32⟩
  | .hbm, ⟨38, _⟩ => ⟨S_, .f32⟩
  | .hbm, ⟨39, _⟩ => ⟨S2x128x512, .f32⟩
  | .hbm, ⟨40, _⟩ => ⟨S2x128x512x1, .f32⟩
  | .hbm, ⟨41, _⟩ => ⟨S2x128x512x512, .f32⟩
  | .hbm, ⟨42, _⟩ => ⟨S2x128x512x512, .f32⟩
  | .hbm, ⟨43, _⟩ => ⟨S2x128x512x512, .f32⟩
  | .hbm, ⟨44, _⟩ => ⟨S_, .i1⟩
  | .hbm, ⟨45, _⟩ => ⟨S512, .i1⟩
  | .hbm, ⟨46, _⟩ => ⟨S1x1x512x1, .i1⟩
  | .hbm, ⟨47, _⟩ => ⟨S_, .f32⟩
  | .hbm, ⟨48, _⟩ => ⟨S2x128x512, .f32⟩
  | .hbm, ⟨49, _⟩ => ⟨S2x128x512x1, .f32⟩
  | .hbm, ⟨50, _⟩ => ⟨S_, .f32⟩
  | .hbm, ⟨51, _⟩ => ⟨S_, .f32⟩
  | .hbm, ⟨52, _⟩ => ⟨S2x128x512x1, .i1⟩
  | .hbm, ⟨53, _⟩ => ⟨S2x128x512x1, .f32⟩
  | .hbm, ⟨54, _⟩ => ⟨S2x128x512x1, .f32⟩
  | .hbm, ⟨55, _⟩ => ⟨S2x128x512x512, .f32⟩
  | .hbm, ⟨56, _⟩ => ⟨S2x128x512x512, .f32⟩
  | .hbm, ⟨57, _⟩ => ⟨S1x1x512x1, .i1⟩
  | .hbm, ⟨58, _⟩ => ⟨S_, .f32⟩
  | .hbm, ⟨59, _⟩ => ⟨S_, .f32⟩
  | .hbm, ⟨60, _⟩ => ⟨S2x128x512x512, .i1⟩
  | .hbm, ⟨61, _⟩ => ⟨S2x128x512x512, .f32⟩
  | .hbm, ⟨62, _⟩ => ⟨S2x128x512x512, .f32⟩
  | .hbm, ⟨63, _⟩ => ⟨S2x128x64x512, .f32⟩
  | .hbm, ⟨64, _⟩ => ⟨S2x512x128x64, .f32⟩
  | .hbm, ⟨65, _⟩ => ⟨S2x512x8192, .f32⟩
  | .hbm, ⟨66, _⟩ => ⟨S2x512x768, .f32⟩
  | _, _ => ⟨S2x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_4 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_7 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩

abbrev nD : Nat := 1
abbrev τ : Topo := Topo.v7x

variable {F : FTy → Type} [FloatOps F]
-- ==== Proof.Proto.lean ====
module

public import proofs.«01_k».proof.Proof.Gen.KernelIdeal.Launch
public import proofs.«01_k».proof.Proof.Gen.KernelIdeal.Regions
public import proofs.«01_k».proof.Proof.Gen.KernelIdeal.Skeleton
public import Idealize.ShloMosaic.Lib.Rounds
public import Idealize.ShloMosaic.Lib.Pipeline.RegionTalk

@[expose] public section

/-!
# The exchange protocol

Sixteen devices combine their partial results by eight steps of pairwise exchange. In step `s` device `c`
exchanges rows with `pt s c`, the device whose number differs in one bit: bits 0, 1, 2, 3 in the halving steps
0–3, bits 3, 2, 1, 0 in the doubling steps 4–7. This module names the semaphore cells, states what the exchanged
slots hold as a function of every device's partial result, and gives the schedule of the cells: who pays what
into which cell.
-/

set_option maxRecDepth 16384

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal

variable {F : FTy → Type} [FloatOps F]

/-! ## Devices, rows, offsets -/

/-- The device whose number differs from `c`'s in bit `k`. -/
def flip (k : Fin 4) (c : Dev nD) : Dev nD := ⟨(c.val ^^^ 2 ^ k.val) % 16, Nat.mod_lt _ (by decide)⟩
theorem flip_flip (k : Fin 4) (c : Dev nD) : flip k (flip k c) = c := by revert k c; decide
/-- Flipping one bit, as a permutation of the devices. -/
def flipEquiv (k : Fin 4) : Dev nD ≃ Dev nD := ⟨flip k, flip k, flip_flip k, flip_flip k⟩
theorem flip_inj {k k' : Fin 4} {c : Dev nD} (h : flip k c = flip k' c) : k = k' := by revert k k' c; decide

/-- The bit along which step `s` exchanges. -/
def bitOf (s : Fin 8) : Fin 4 := ![0, 1, 2, 3, 3, 2, 1, 0] s
/-- The device that `c` exchanges with in step `s`. -/
def pt (s : Fin 8) (c : Dev nD) : Dev nD := flip (bitOf s) c
theorem pt_pt (s : Fin 8) (c : Dev nD) : pt s (pt s c) = c := flip_flip _ c
/-- The exchange partner of step `s`, as a permutation of the devices. -/
def ptEquiv (s : Fin 8) : Dev nD ≃ Dev nD := ⟨pt s, pt s, pt_pt s, pt_pt s⟩

/-- How many rows step `s` exchanges. -/
def rows (s : Fin 8) : ℕ := ![512, 256, 128, 64, 64, 128, 256, 512] s
theorem rows_le (s : Fin 8) : rows s ≤ 512 := by revert s; decide
theorem rows_pos (s : Fin 8) : 0 < rows s := by revert s; decide

/-- The first row that `c` sends in step `s`. -/
def offS (s : Fin 8) (c : Dev nD) : ℕ := match s with
  | 0 => k0_off1 c 0 | 1 => k0_off3 c 0 | 2 => k0_off5 c 0 | 3 => k0_off7 c 0
  | 4 => k0_off9 c 0 | 5 => k0_off11 c 0 | 6 => k0_off13 c 0 | 7 => k0_off15 c 0
/-- The first row that `c` rewrites in step `s`. -/
def offD (s : Fin 8) (c : Dev nD) : ℕ := match s with
  | 0 => k0_off2 c 0 | 1 => k0_off4 c 0 | 2 => k0_off6 c 0 | 3 => k0_off8 c 0
  | 4 => k0_off10 c 0 | 5 => k0_off12 c 0 | 6 => k0_off14 c 0 | 7 => k0_off16 c 0
theorem offS_le (s : Fin 8) (c : Dev nD) : offS s c + rows s ≤ 1024 := by revert s c; decide +kernel
theorem offD_le (s : Fin 8) (c : Dev nD) : offD s c + rows s ≤ 1024 := by revert s c; decide +kernel

/-! ## What the steps compute -/

/-- A device's partial result. -/
abbrev Part (F : FTy → Type) : Type := (cc0_stg5_0 : Ref sig .tc).ty.Contents (Elt F)
/-- The contents of a device's landing buffer. -/
abbrev Comm (F : FTy → Type) : Type := (cc0_scratch2 : Ref sig .tc).ty.Contents (Elt F)

/-- Row `n` of a partial result. -/
def rowOf (n : ℕ) : Fin 1024 := ⟨n % 1024, Nat.mod_lt _ (by decide)⟩
/-- The index of a partial result at a row and a column. -/
def ix (a : Fin 1024) (b : Fin 768) : S1024x768.Idx := fun | 0 => a | 1 => b | ⟨_ + 2, h⟩ => absurd h (Nat.not_lt.2 (Nat.le_add_left _ _))

/-- What `c` sends in step `s` from state `X`: row `r`, column `j` of the rows it sends, narrowed. -/
def msg (s : Fin 8) (X : Dev nD → Part F) (c : Dev nD) (r : ℕ) (j : Fin 768) : F .bf16 :=
  FloatOps.truncf (φ := .f32) .bf16 (by decide) (X c (ix (rowOf (offS s c + r)) j))

/-- What lies in `c`'s landing slot after its partner's send of step `s`. -/
def landed (s : Fin 8) (X : Dev nD → Part F) (c : Dev nD) : Comm F :=
  fun i => msg s X (pt s c) (i 1).val (i 2)

/-- The state after step `s`: the rows rewritten are added to in a halving step, replaced in a doubling step. -/
def next (s : Fin 8) (X : Dev nD → Part F) (c : Dev nD) : Part F := fun i =>
  if offD s c ≤ (i 0).val ∧ (i 0).val < offD s c + rows s then
    if s.val < 4 then FloatOps.addf (φ := .f32) (X c i) (FloatOps.extf (φ := .bf16) .f32 (by decide) (msg s X (pt s c) ((i 0).val - offD s c) (i 1)))
    else FloatOps.extf (φ := .bf16) .f32 (by decide) (msg s X (pt s c) ((i 0).val - offD s c) (i 1))
  else X c i

/-- The state before step `n`, from the partial results `P`. -/
def outSt (P : Dev nD → Part F) : ℕ → Dev nD → Part F
  | 0 => P
  | n + 1 => if h : n < 8 then next ⟨n, h⟩ (outSt P n) else outSt P n
theorem outSt_succ (P : Dev nD → Part F) (s : Fin 8) : outSt P (s.val + 1) = next s (outSt P s.val) := by
  show (if h : s.val < 8 then next ⟨s.val, h⟩ (outSt P s.val) else outSt P s.val) = _
  rw [dif_pos s.isLt]

/-! ## The resource algebra -/

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Cells and points-tos -/

/-- The semaphore of the send of step `s`, -/
def sendSem (s : Fin 8) : DmaSem sig := ⟨6 + s.val, by have := s.isLt; show 6 + s.val < 22; omega⟩
/-- and of its arrival. -/
def recvSem (s : Fin 8) : DmaSem sig := ⟨14 + s.val, by have := s.isLt; show 14 + s.val < 22; omega⟩

abbrev barCell (c : Dev nD) : GSem nD τ sig := ((c : Thread nD τ), .reg barrier0)
abbrev sendCell (s : Fin 8) (c : Dev nD) : GSem nD τ sig := ((c : Thread nD τ), .dma (sendSem s))
abbrev recvCell (s : Fin 8) (c : Dev nD) : GSem nD τ sig := ((c : Thread nD τ), .dma (recvSem s))

/-- What a transfer of step `s` credits. -/
def N (s : Fin 8) : ℕ := RefSig.tileCredit ⟨2, ![rows s, 768]⟩ .bf16
theorem N_pos (s : Fin 8) : 0 < N s := by
  refine RefSig.tileCredit_pos _ _ ?_
  revert s; decide

/-- The elements of slot `s` of the landing buffer that step `s` writes. -/
def slotSet (s : Fin 8) : Finset S8x512x768.Idx := Finset.univ.filter fun i => (i 0).val = s.val ∧ (i 1).val < rows s
/-- The elements of the sending buffer that step `s` uses. -/
def sbSet (s : Fin 8) : Finset S512x768.Idx := Finset.univ.filter fun i => (i 0).val < rows s

abbrev outPt (c : Dev nD) (f : Part F) : sProp 𝕄 := (c : Thread nD τ).loc cc0_stg5_0 ↦{fullShare} f
abbrev sbPt (c : Dev nD) (f : (cc0_scratch1 : Ref sig .tc).ty.Contents (Elt F)) : sProp 𝕄 := (c : Thread nD τ).loc cc0_scratch1 ↦{fullShare} f
abbrev slotPt (s : Fin 8) (c : Dev nD) (f : Comm F) : sProp 𝕄 := (c : Thread nD τ).loc cc0_scratch2 ↦[slotSet s]{fullShare} f

/-! ## The schedule -/

/-- The step of the second half that runs along bit `k`. -/
def late (k : Fin 4) : Fin 8 := ⟨7 - k.val, by omega⟩
/-- The step of the first half that runs along bit `k`. -/
def early (k : Fin 4) : Fin 8 := ⟨k.val, by omega⟩
theorem pt_early (k : Fin 4) (c : Dev nD) : pt (early k) c = flip k c := by revert k c; decide
theorem pt_late (k : Fin 4) (c : Dev nD) : pt (late k) c = flip k c := by revert k c; decide

/-- Paid into `c`'s barrier cell by the device across bit `k`: its two landing slots for `c`, and that their
    arrival cells are open. -/
def barPay (k : Fin 4) (c : Dev nD) : sProp 𝕄 :=
  iprop(((∃ f, slotPt (early k) (flip k c) f) ∗ reached ER (recvCell (early k) (flip k c)) 0)
    ∗ (∃ f, slotPt (late k) (flip k c) f) ∗ reached ER (recvCell (late k) (flip k c)) 0)
/-- Paid into `c`'s arrival cell of step `s`: its landing slot back, at named contents. -/
def recvPay (P : Dev nD → Part F) (s : Fin 8) (c : Dev nD) : sProp 𝕄 := slotPt s c (landed s (outSt P s.val) c)
/-- Paid into `c`'s send cell of step `s`: the sent elements back. -/
def sendPay (s : Fin 8) (c : Dev nD) : sProp 𝕄 :=
  iprop(∃ f : (cc0_scratch1 : Ref sig .tc).ty.Contents (Elt F), (c : Thread nD τ).loc cc0_scratch1 ↦[sbSet s]{fullShare} f)

/-- The step of an arrival or send semaphore. -/
def stepOf (q : DmaSem sig) : Fin 8 := ⟨(q.val + 2) % 8, Nat.mod_lt _ (by decide)⟩
theorem stepOf_send (s : Fin 8) : stepOf (sendSem s) = s := by revert s; decide
theorem stepOf_recv (s : Fin 8) : stepOf (recvSem s) = s := by revert s; decide

/-- The schedule: round 0 of every barrier cell has four duties, one per bit; round 0 of every send and arrival cell
    has one. -/
def rd (P : Dev nD → Part F) : Rounds.Schedule (GSem nD τ sig) (Fin 4) 𝕄 where
  duties g r := if r = 0 ∧ g.1.2 = .tc then
      match g.2 with
      | .reg _ => Finset.univ
      | .dma q => if 6 ≤ q.val then {0} else ∅
    else ∅
  unitless _ := False
  amount g _ _ := match g.2 with
    | .reg _ => 1
    | .dma q => N (stepOf q)
  payload g _ d := match g.2 with
    | .reg _ => barPay d g.1.1
    | .dma q => if 14 ≤ q.val then recvPay P (stepOf q) g.1.1 else sendPay (stepOf q) g.1.1
  amount_pos g _ _ _ := by
    rcases g.2 with _ | q
    · exact Nat.one_pos
    · exact N_pos _

instance rd_payload_storable (P : Dev nD → Part F) (g : GSem nD τ sig) (r : ℕ) (d : Fin 4) :
    BI.Storable (upEmb : UEmb _ 𝕄) ((rd P).payload g r d) := by
  obtain ⟨t, _ | q⟩ := g
  · show BI.Storable upEmb (barPay d t.1)
    unfold barPay; infer_instance
  · show BI.Storable upEmb (if 14 ≤ q.val then recvPay P (stepOf q) t.1 else sendPay (stepOf q) t.1)
    unfold recvPay sendPay
    split <;> infer_instance

section Sched

variable (P : Dev nD → Part F) (s : Fin 8) (c : Dev nD)

theorem duties_bar : (rd P).duties (barCell c) 0 = Finset.univ := by dsimp only [rd]; rw [if_pos ⟨rfl, rfl⟩]
theorem duties_send : (rd P).duties (sendCell s c) 0 = {0} := by
  dsimp only [rd]; rw [if_pos ⟨rfl, rfl⟩]; exact if_pos (Nat.le_add_right 6 s.val)
theorem duties_recv : (rd P).duties (recvCell s c) 0 = {0} := by
  dsimp only [rd]; rw [if_pos ⟨rfl, rfl⟩]; exact if_pos (by show 6 ≤ 14 + s.val; omega)
theorem duties_later (g : GSem nD τ sig) : ∀ r, 1 ≤ r → (rd P).duties g r = ∅ :=
  fun r hr => by dsimp only [rd]; exact if_neg (fun h => by omega)

theorem amount_bar (d : Fin 4) : (rd P).amount (barCell c) 0 d = 1 := rfl
theorem amount_send (d : Fin 4) : (rd P).amount (sendCell s c) 0 d = N s := by
  show N (stepOf (sendSem s)) = N s; rw [stepOf_send]
theorem amount_recv (d : Fin 4) : (rd P).amount (recvCell s c) 0 d = N s := by
  show N (stepOf (recvSem s)) = N s; rw [stepOf_recv]

theorem expect_bar : (rd P).expect (barCell c) 0 = 4 := by
  unfold Schedule.expect Schedule.amountOf
  rw [duties_bar, Finset.sum_congr rfl fun d _ => amount_bar P c d, Finset.sum_const, Finset.card_univ, Fintype.card_fin, smul_eq_mul]
theorem expect_send : (rd P).expect (sendCell s c) 0 = N s := by
  unfold Schedule.expect Schedule.amountOf; rw [duties_send, Finset.sum_singleton, amount_send]
theorem expect_recv : (rd P).expect (recvCell s c) 0 = N s := by
  unfold Schedule.expect Schedule.amountOf; rw [duties_recv, Finset.sum_singleton, amount_recv]

theorem payload_bar (d : Fin 4) : (rd P).payload (barCell c) 0 d = barPay d c := rfl
theorem payload_send (d : Fin 4) : (rd P).payload (sendCell s c) 0 d = sendPay s c := by
  show (if 14 ≤ (sendSem s).val then recvPay P (stepOf (sendSem s)) c else sendPay (stepOf (sendSem s)) c) = _
  rw [if_neg (by show ¬ 14 ≤ 6 + s.val; omega), stepOf_send]
theorem payload_recv (d : Fin 4) : (rd P).payload (recvCell s c) 0 d = recvPay P s c := by
  show (if 14 ≤ (recvSem s).val then recvPay P (stepOf (recvSem s)) c else sendPay (stepOf (recvSem s)) c) = _
  rw [if_pos (by show 14 ≤ 14 + s.val; omega), stepOf_recv]

theorem rest_bar : bigSep ((rd P).duties (barCell c) 0 \ ∅) (fun d => (rd P).payload (barCell c) 0 d)
    = iprop(barPay 0 c ∗ barPay 1 c ∗ barPay 2 c ∗ barPay 3 c) := by
  rw [Finset.sdiff_empty, duties_bar, bigSep_univ_eq_bigSepL [0, 1, 2, 3] (by decide) (by decide)]
  rfl
theorem rest_send : bigSep ((rd P).duties (sendCell s c) 0 \ ∅) (fun d => (rd P).payload (sendCell s c) 0 d) = sendPay s c := by
  rw [Finset.sdiff_empty, duties_send, bigSep_singleton, payload_send]
theorem rest_recv : bigSep ((rd P).duties (recvCell s c) 0 \ ∅) (fun d => (rd P).payload (recvCell s c) 0 d) = recvPay P s c := by
  rw [Finset.sdiff_empty, duties_recv, bigSep_singleton, payload_recv]

end Sched

/-! ## What each device owes; the levels -/

/-- What `c` owes to arrival cells before step `n`: the arrivals of the steps still to come. -/
def Os (n : ℕ) (c : Dev nD) : CellTallies nD τ sig Unit :=
  ∑ t ∈ Finset.univ.filter (fun t : Fin 8 => n ≤ t.val), tallyAt (recvCell t (pt t c)) () (N t)
/-- What `c` owes to barrier cells before its signal number `n`. -/
def Ob (n : ℕ) (c : Dev nD) : CellTallies nD τ sig Unit :=
  ∑ k ∈ Finset.univ.filter (fun k : Fin 4 => n ≤ k.val), tallyAt (barCell (flip k c)) () 1
/-- What `c` owes at launch. -/
def O₀ (c : Dev nD) : CellTallies nD τ sig Unit := Os 0 c + Ob 0 c

theorem Os_succ (s : Fin 8) (c : Dev nD) : Os s.val c = Os (s.val + 1) c + tallyAt (recvCell s (pt s c)) () (N s) := by
  unfold Os
  rw [show Finset.univ.filter (fun t : Fin 8 => s.val ≤ t.val) = insert s (Finset.univ.filter fun t : Fin 8 => s.val + 1 ≤ t.val) from by
    revert s; decide, Finset.sum_insert (by simp), add_comm]
theorem Ob_succ (k : Fin 4) (c : Dev nD) : Ob k.val c = Ob (k.val + 1) c + tallyAt (barCell (flip k c)) () 1 := by
  unfold Ob
  rw [show Finset.univ.filter (fun t : Fin 4 => k.val ≤ t.val) = insert k (Finset.univ.filter fun t : Fin 4 => k.val + 1 ≤ t.val) from by
    revert k; decide, Finset.sum_insert (by simp), add_comm]
theorem Os_last (c : Dev nD) : Os 8 c = 0 := by
  unfold Os; rw [show Finset.univ.filter (fun t : Fin 8 => 8 ≤ t.val) = ∅ from by decide, Finset.sum_empty]
theorem Ob_last (c : Dev nD) : Ob 4 c = 0 := by
  unfold Ob; rw [show Finset.univ.filter (fun t : Fin 4 => 4 ≤ t.val) = ∅ from by decide, Finset.sum_empty]

def L (g : GSem nD τ sig) : Finset Unit := if g.1.2 = .tc then {()} else ∅
/-- Barrier cells at 1, arrival cells from 2 upwards in the order of the steps, the rest at 0. -/
def lv (g : GSem nD τ sig) (_ : Unit) : ℕ := match g.2 with
  | .reg _ => 1
  | .dma q => if 14 ≤ q.val then q.val - 12 else 0

theorem L_of_ne (g : GSem nD τ sig) (h : g.1.2 ≠ .tc) : L g = ∅ := if_neg h
theorem L_tc (c : Dev nD) (sm : SemLoc sig) : L ((c : Thread nD τ), sm) = {()} := if_pos rfl
theorem lv_recv (s : Fin 8) (c : Dev nD) (u : Unit) : lv (recvCell s c) u = 2 + s.val := by
  show (if 14 ≤ 14 + s.val then 14 + s.val - 12 else 0) = _
  rw [if_pos (by omega)]; omega

theorem tally_pos {g g' : GSem nD τ sig} {n : ℕ} {u : Unit} (h : 0 < (tallyAt g' () n : CellTallies nD τ sig Unit) g u) : g = g' := by
  rw [tallyAt_apply] at h
  split at h
  · next hg => exact hg.1
  · exact absurd h (Nat.lt_irrefl 0)

theorem sum_pos {ι : Type} {S : Finset ι} {f : ι → CellTallies nD τ sig Unit} {g : GSem nD τ sig} {u : Unit}
    (h : 0 < (∑ t ∈ S, f t) g u) : ∃ t ∈ S, 0 < f t g u := by
  classical
  by_contra hc
  push Not at hc
  rw [Finset.sum_apply, Finsupp.finset_sum_apply] at h
  have := Finset.sum_eq_zero (s := S) (f := fun t => f t g u) fun t ht => Nat.le_zero.mp (hc t ht)
  omega

theorem Os_pos {n : ℕ} {c : Dev nD} {g : GSem nD τ sig} {u : Unit} (h : 0 < Os n c g u) : ∃ t : Fin 8, n ≤ t.val ∧ g = recvCell t (pt t c) := by
  obtain ⟨t, ht, h⟩ := sum_pos h
  exact ⟨t, (Finset.mem_filter.mp ht).2, tally_pos h⟩
theorem Ob_pos {n : ℕ} {c : Dev nD} {g : GSem nD τ sig} {u : Unit} (h : 0 < Ob n c g u) : ∃ k : Fin 4, g = barCell (flip k c) := by
  obtain ⟨t, -, h⟩ := sum_pos h
  exact ⟨t, tally_pos h⟩

theorem mayWait_bar (c : Dev nD) : (levAts L lv : sProp 𝕄) ⊢ MayWait (c : Thread nD τ) (.reg barrier0) () (Os 0 c) :=
  MayOwe.of_cut (L := L) (lev := lv) 1 (fun p hp => by rw [Finset.mem_singleton.mp hp, L_tc]; exact Finset.mem_singleton_self _)
    (fun g u hg => by obtain ⟨t, -, rfl⟩ := Os_pos hg; rw [L_tc]; exact Finset.mem_singleton_self _)
    (fun p hp => by rw [Finset.mem_singleton.mp hp]; rfl)
    (fun g u hg => by obtain ⟨t, -, rfl⟩ := Os_pos hg; rw [lv_recv]; omega)
theorem mayWait_send (s : Fin 8) (n : ℕ) (c : Dev nD) : (levAts L lv : sProp 𝕄) ⊢ MayWait (c : Thread nD τ) (.dma (sendSem s)) () (Os n c) :=
  MayOwe.of_cut (L := L) (lev := lv) 0 (fun p hp => by rw [Finset.mem_singleton.mp hp, L_tc]; exact Finset.mem_singleton_self _)
    (fun g u hg => by obtain ⟨t, -, rfl⟩ := Os_pos hg; rw [L_tc]; exact Finset.mem_singleton_self _)
    (fun p hp => by
      rw [Finset.mem_singleton.mp hp]
      show (if 14 ≤ 6 + s.val then 6 + s.val - 12 else 0) ≤ 0
      rw [if_neg (by omega)])
    (fun g u hg => by obtain ⟨t, -, rfl⟩ := Os_pos hg; rw [lv_recv]; omega)
theorem mayWait_recv (s : Fin 8) (c : Dev nD) : (levAts L lv : sProp 𝕄) ⊢ MayWait (c : Thread nD τ) (.dma (recvSem s)) () (Os (s.val + 1) c) :=
  MayOwe.of_cut (L := L) (lev := lv) (2 + s.val) (fun p hp => by rw [Finset.mem_singleton.mp hp, L_tc]; exact Finset.mem_singleton_self _)
    (fun g u hg => by obtain ⟨t, -, rfl⟩ := Os_pos hg; rw [L_tc]; exact Finset.mem_singleton_self _)
    (fun p hp => by rw [Finset.mem_singleton.mp hp]; exact (lv_recv s c ()).le)
    (fun g u hg => by obtain ⟨t, ht, rfl⟩ := Os_pos hg; rw [lv_recv]; omega)

end Cert.KernelIdeal.Exchange
-- ==== Proof.Access.lean ====
module

public import proofs.«01_k».proof.Proof.Proto
public import Idealize.ShloMosaic.Lib.ValueLayout
public import Idealize.ShloMosaic.Lib.Pipeline.Value
public import Idealize.ShloMosaic.Lib.Pipeline.ValueKit.Geometry

@[expose] public section

/-!
# Reading and writing through the exchange's views

What the loads, the stores and the transfers of one step read and write, element by element, for a step that moves
`n` rows: the sending buffer's first `n` rows, slot `s` of the landing buffer, `n` rows of the partial result.
-/

set_option maxRecDepth 16384

noncomputable section

namespace Cert.KernelIdeal.Exchange

open Idealize.ShloMosaic Idealize.ShloMosaic.TcCoe
open Idealize.ShloMosaic.ValueIdx
open Cert.KernelIdeal

variable {F : FTy → Type} [FloatOps F]

/-- The shape of `n` rows, -/
abbrev Sh (n : ℕ) : Shape := ⟨2, ![n, 768]⟩
/-- and of one slot's `n` rows. -/
abbrev Sh1 (n : ℕ) : Shape := ⟨3, ![1, n, 768]⟩

abbrev outM : Memref sig .tc .vmem S1024x768 .f32 := Memref.whole cc0_stg5_0
abbrev sbM : Memref sig .tc .vmem S512x768 .bf16 := Memref.whole cc0_scratch1
abbrev cmM : Memref sig .tc .vmem S8x512x768 .bf16 := Memref.whole cc0_scratch2

/-- Rows `off 0` onwards of the partial result. -/
abbrev rOut (n : ℕ) (off : Fin 2 → ℕ) (h : ∀ a, (off : Fin 2 → ℕ) a + (Sh n).size a ≤ S1024x768.size a) : Rect S1024x768 := Rect.unit (s := S1024x768) off (Sh n).size h
/-- The first `n` rows of the sending buffer. -/
abbrev rSb (n : ℕ) (h : ∀ a, (![0, 0] : Fin 2 → ℕ) a + (Sh n).size a ≤ S512x768.size a) : Rect S512x768 := Rect.unit (s := S512x768) ![0, 0] (Sh n).size h
/-- The first `n` rows of a slot of the landing buffer. -/
abbrev rCm (n : ℕ) (off : Fin 3 → ℕ) (h : ∀ a, (off : Fin 3 → ℕ) a + (Sh1 n).size a ≤ S8x512x768.size a) : Rect S8x512x768 := Rect.unit (s := S8x512x768) off (Sh1 n).size h

/-- The sending buffer's first `n` rows as a transfer's source, -/
abbrev sbV (n : ℕ) (h : ∀ a, (![0, 0] : Fin 2 → ℕ) a + (Sh n).size a ≤ S512x768.size a) : Memref sig .tc .vmem (Sh n) .bf16 := sbM.slice (rSb n h) (fun _ => rfl)
/-- and a slot's first `n` rows as its destination. -/
abbrev cmV (n : ℕ) (off : Fin 3 → ℕ) (h : ∀ a, (off : Fin 3 → ℕ) a + (Sh1 n).size a ≤ S8x512x768.size a) (hq : (Sh1 n).Squeezes (Sh n)) : Memref sig .tc .vmem (Sh n) .bf16 :=
  (cmM.slice (rCm n off h) (fun _ => rfl)).squeeze (Sh n) hq

variable {n : ℕ}

theorem emb_out (off : Fin 2 → ℕ) (o : ℕ) (hoff : off = ![o, 0]) (h : ∀ a, (off : Fin 2 → ℕ) a + (Sh n).size a ≤ S1024x768.size a) (x : (Sh n).Idx) :
    (outM.access (rOut n off h)).emb x = ix (rowOf (o + (x 0).val)) (x 1) := by
  subst hoff
  funext a
  refine Fin.ext ((ValueKit.view_emb_slice_whole_unit_val cc0_stg5_0 _ _ h x a).trans ?_)
  match a with
  | 0 =>
    show o + (x 0).val = (o + (x 0).val) % 1024
    have h0 := h 0
    have hx : (x 0).val < n := (x 0).isLt
    have h0' : o + n ≤ 1024 := h0
    rw [Nat.mod_eq_of_lt (by omega)]
  | 1 => exact Nat.zero_add _

theorem emb_sb (h : ∀ a, (![0, 0] : Fin 2 → ℕ) a + (Sh n).size a ≤ S512x768.size a) (x : (Sh n).Idx) (a : Fin 2) :
    ((sbM.access (rSb n h)).emb x a).val = (x a).val := by
  refine (ValueKit.view_emb_slice_whole_unit_val cc0_scratch1 _ _ h x a).trans ?_
  match a with
  | 0 => exact Nat.zero_add _
  | 1 => exact Nat.zero_add _

theorem emb_slot (off : Fin 3 → ℕ) (s : Fin 8) (hoff : off = ![s.val, 0, 0]) (h : ∀ a, (off : Fin 3 → ℕ) a + (Sh1 n).size a ≤ S8x512x768.size a) (x : (Sh1 n).Idx) (a : Fin 3) :
    ((cmM.access (rCm n off h)).emb x a).val = ![s.val, (x 1).val, (x 2).val] a := by
  subst hoff
  refine (ValueKit.view_emb_slice_whole_unit_val cc0_scratch2 _ _ h x a).trans ?_
  match a with
  | 0 =>
    have hx : (x 0).val < 1 := (x 0).isLt
    show s.val + (x 0).val = s.val; omega
  | 1 => exact Nat.zero_add _
  | 2 => exact Nat.zero_add _

theorem emb_cm (off : Fin 3 → ℕ) (s : Fin 8) (hoff : off = ![s.val, 0, 0]) (h : ∀ a, (off : Fin 3 → ℕ) a + (Sh1 n).size a ≤ S8x512x768.size a) (hq : (Sh1 n).Squeezes (Sh n))
    (x : (Sh n).Idx) (a : Fin 3) : ((cmV n off h hq).view.emb x a).val = ![s.val, (x 0).val, (x 1).val] a := by
  have hx : x = ix2 (x 0) (x 1) := eq_ix2 x
  have hr : Shape.reshapeEquiv hq.numel_eq x = ix3 (⟨0, Nat.one_pos⟩ : Fin 1) (x 0) (x 1) := by
    conv_lhs => rw [hx]
    exact reshapeEquiv_ix2_1ab hq.numel_eq (x 0) (x 1)
  have : (cmV n off h hq).view.emb x = (cmM.access (rCm n off h)).emb (ix3 (⟨0, Nat.one_pos⟩ : Fin 1) (x 0) (x 1)) :=
    (show _ = (cmM.access (rCm n off h)).emb (Shape.reshapeEquiv hq.numel_eq x) from rfl).trans (congrArg _ hr)
  rw [this, emb_slot off s hoff h]
  rfl

/-- The transfer's destination is the slot's elements of the step, -/
theorem set_cm (off : Fin 3 → ℕ) (s : Fin 8) (hn : n = rows s) (hoff : off = ![s.val, 0, 0]) (h : ∀ a, (off : Fin 3 → ℕ) a + (Sh1 n).size a ≤ S8x512x768.size a)
    (hq : (Sh1 n).Squeezes (Sh n)) : (cmV n off h hq).view.set = slotSet s := by
  subst hoff hn
  have : (cmV (rows s) ![s.val, 0, 0] h hq).view.set = (rCm (rows s) ![s.val, 0, 0] h).set :=
    (View.set_reshape _ _).trans (View.set_slice_whole _ _)
  rw [this]
  ext i
  rw [Rect.mem_set_unit, slotSet, Finset.mem_filter]
  constructor
  · intro hi
    have h0 := hi 0
    have h1 := hi 1
    have a0 : s.val ≤ (i 0).val ∧ (i 0).val < s.val + 1 := h0
    have a1 : 0 ≤ (i 1).val ∧ (i 1).val < 0 + rows s := h1
    exact ⟨Finset.mem_univ _, by omega, by omega⟩
  · rintro ⟨-, h0, h1⟩ a
    have h2 : (i 2).val < 768 := (i 2).isLt
    match a with
    | 0 => show s.val ≤ (i 0).val ∧ (i 0).val < s.val + 1; omega
    | 1 => show 0 ≤ (i 1).val ∧ (i 1).val < 0 + rows s; omega
    | 2 => show 0 ≤ (i 2).val ∧ (i 2).val < 0 + 768; omega

/-- and so is what the load of the slot covers. -/
theorem setOn_slot (off : Fin 3 → ℕ) (s : Fin 8) (hn : n = rows s) (hoff : off = ![s.val, 0, 0]) (h : ∀ a, (off : Fin 3 → ℕ) a + (Sh1 n).size a ≤ S8x512x768.size a)
    (hq : (Sh1 n).Squeezes (Sh n)) : cmM.view.setOn (rCm n off h).toLoadRect.set ⊆ slotSet s := by
  rw [← set_cm off s hn hoff h hq]
  refine (le_of_eq ?_)
  exact ((View.set_reshape _ _).trans (View.set_slice _ _)).symm

theorem set_sb (s : Fin 8) (hn : n = rows s) (h : ∀ a, (![0, 0] : Fin 2 → ℕ) a + (Sh n).size a ≤ S512x768.size a) : (sbV n h).view.set = sbSet s := by
  subst hn
  have : (sbV (rows s) h).view.set = (rSb (rows s) h).set := View.set_slice_whole _ _
  rw [this]
  ext i
  rw [Rect.mem_set_unit, sbSet, Finset.mem_filter]
  constructor
  · intro hi
    have a0 : 0 ≤ (i 0).val ∧ (i 0).val < 0 + rows s := hi 0
    exact ⟨Finset.mem_univ _, by omega⟩
  · rintro ⟨-, h0⟩ a
    have h2 : (i 1).val < 768 := (i 1).isLt
    match a with
    | 0 => show 0 ≤ (i 0).val ∧ (i 0).val < 0 + rows s; omega
    | 1 => show 0 ≤ (i 1).val ∧ (i 1).val < 0 + 768; omega

/-! ## What is read and written -/

/-- The load of `n` rows of the partial result from row `o`. -/
theorem read_out (off : Fin 2 → ℕ) (o : ℕ) (hoff : off = ![o, 0]) (h : ∀ a, (off : Fin 2 → ℕ) a + (Sh n).size a ≤ S1024x768.size a) (f : Part F) (x : (Sh n).Idx) :
    outM.view.readAt (Elt F) (rOut n off h).toLoadRect f x = f (ix (rowOf (o + (x 0).val)) (x 1)) := by
  rw [← emb_out off o hoff h x]; rfl

/-- The load of slot `s`. -/
theorem read_slot (off : Fin 3 → ℕ) (s : Fin 8) (hoff : off = ![s.val, 0, 0]) (h : ∀ a, (off : Fin 3 → ℕ) a + (Sh1 n).size a ≤ S8x512x768.size a) (X : Dev nD → Part F) (c : Dev nD)
    (x : (Sh1 n).Idx) : cmM.view.readAt (Elt F) (rCm n off h).toLoadRect (landed s X c) x = msg s X (pt s c) (x 1).val (x 2) := by
  show landed s X c ((cmM.access (rCm n off h)).emb x) = _
  unfold landed
  rw [emb_slot off s hoff h x 1, show (cmM.access (rCm n off h)).emb x 2 = x 2 from Fin.ext (emb_slot off s hoff h x 2)]
  rfl

/-- The sending buffer after the store of `w`, read as the transfer reads it. -/
theorem read_filled (h : ∀ a, (![0, 0] : Fin 2 → ℕ) a + (Sh n).size a ≤ S512x768.size a) (f : (cc0_scratch1 : Ref sig .tc).ty.Contents (Elt F)) (w : (Sh n).Idx → F .bf16) :
    (sbV n h).view.read (Elt F) ((sbM.access (rSb n h)).write (Elt F) f w Finset.univ) = w :=
  funext fun x => (View.write_emb_of_mem (Val := Elt F) (v := sbM.access (rSb n h)) f w (Finset.mem_univ x))

/-- The landing slot after the transfer of `w`, where `w` is the partner's message. -/
theorem write_slot (off : Fin 3 → ℕ) (s : Fin 8) (hn : n = rows s) (hoff : off = ![s.val, 0, 0]) (h : ∀ a, (off : Fin 3 → ℕ) a + (Sh1 n).size a ≤ S8x512x768.size a)
    (hq : (Sh1 n).Squeezes (Sh n)) (X : Dev nD → Part F) (c : Dev nD) (f : Comm F) (w : (Sh n).Idx → F .bf16)
    (hw : ∀ x, w x = msg s X (pt s c) (x 0).val (x 1)) :
    ∀ i ∈ slotSet s, (cmV n off h hq).view.write (Elt F) f w Finset.univ i = landed s X c i := by
  intro i hi
  rw [← set_cm off s hn hoff h hq] at hi
  obtain ⟨x, -, rfl⟩ := Finset.mem_map.mp hi
  refine (View.write_emb_of_mem (v := (cmV n off h hq).view) f w (Finset.mem_univ x)).trans ?_
  show w x = landed s X c ((cmV n off h hq).view.emb x)
  rw [hw]
  unfold landed
  rw [emb_cm off s hoff h hq x 1, show (cmV n off h hq).view.emb x 2 = x 1 from Fin.ext (emb_cm off s hoff h hq x 2)]
  rfl

/-- The partial result after the store of `w` over the rows step `s` rewrites. -/
theorem write_out (off : Fin 2 → ℕ) (s : Fin 8) (hn : n = rows s) (c : Dev nD) (hoff : off = ![offD s c, 0]) (h : ∀ a, (off : Fin 2 → ℕ) a + (Sh n).size a ≤ S1024x768.size a)
    (X : Dev nD → Part F) (w : (Sh n).Idx → F .f32)
    (hw : ∀ x : (Sh n).Idx, w x = next s X c (ix (rowOf (offD s c + (x 0).val)) (x 1))) :
    (outM.access (rOut n off h)).write (Elt F) (X c) w Finset.univ = next s X c := by
  funext i
  by_cases hi : i ∈ (outM.access (rOut n off h)).set
  · obtain ⟨x, -, rfl⟩ := Finset.mem_map.mp hi
    refine (View.write_emb_of_mem (v := outM.access (rOut n off h)) (X c) w (Finset.mem_univ x)).trans ?_
    show w x = next s X c ((outM.access (rOut n off h)).emb x)
    rw [emb_out off _ hoff h x, hw]
  · rw [View.write_of_not_mem _ _ _ hi]
    have hout : ¬(offD s c ≤ (i 0).val ∧ (i 0).val < offD s c + rows s) := by
      intro hc
      apply hi
      rw [show (outM.access (rOut n off h)).set = (rOut n off h).set from View.set_slice_whole _ _, Rect.mem_set_unit]
      subst hoff hn
      have h2 : (i 1).val < 768 := (i 1).isLt
      intro a
      match a with
      | 0 => show offD s c ≤ (i 0).val ∧ (i 0).val < offD s c + rows s; exact hc
      | 1 => show 0 ≤ (i 1).val ∧ (i 1).val < 0 + 768; omega
    show _ = next s X c i
    unfold next
    rw [if_neg hout]

/-- What step `s` leaves in row `r` of the rows it rewrites, in a halving step -/
theorem next_halving (s : Fin 8) (hs : s.val < 4) (X : Dev nD → Part F) (c : Dev nD) (r : ℕ) (hr : r < rows s) (j : Fin 768) :
    next s X c (ix (rowOf (offD s c + r)) j) = FloatOps.addf (φ := .f32) (X c (ix (rowOf (offD s c + r)) j))
      (FloatOps.extf (φ := .bf16) .f32 (by decide) (msg s X (pt s c) r j)) := by
  have hle := offD_le s c
  have h0 : (ix (rowOf (offD s c + r)) j 0).val = offD s c + r := Nat.mod_eq_of_lt (by omega)
  unfold next
  rw [h0, if_pos ⟨by omega, by omega⟩, if_pos hs, Nat.add_sub_cancel_left]
  rfl

/-- and in a doubling step. -/
theorem next_doubling (s : Fin 8) (hs : ¬ s.val < 4) (X : Dev nD → Part F) (c : Dev nD) (r : ℕ) (hr : r < rows s) (j : Fin 768) :
    next s X c (ix (rowOf (offD s c + r)) j) = FloatOps.extf (φ := .bf16) .f32 (by decide) (msg s X (pt s c) r j) := by
  have hle := offD_le s c
  have h0 : (ix (rowOf (offD s c + r)) j 0).val = offD s c + r := Nat.mod_eq_of_lt (by omega)
  unfold next
  rw [h0, if_pos ⟨by omega, by omega⟩, if_neg hs, Nat.add_sub_cancel_left]
  rfl

/-! ## The payloads of the stores -/

/-- The message's narrowing, -/
theorem pay_narrow {w : (Sh n).Idx → F .f32} (hc : (Sh n).ShapeCasts (Sh n)) (hb : FTy.bits .bf16 < FTy.bits .f32) :
    shapeCast (Sh n) (truncf (F := F) .bf16 (shapeCast (Sh n) w hc) hb) hc = fun x => FloatOps.truncf (φ := .f32) .bf16 hb (w x) := by
  rw [shapeCast_self, shapeCast_self]; rfl

/-- the sum with the landed rows, -/
theorem pay_sum {w : (Sh n).Idx → F .f32} {u : (Sh1 n).Idx → F .bf16} (hc : (Sh n).ShapeCasts (Sh n)) (hc' : (Sh1 n).ShapeCasts (Sh n))
    (hb : FTy.bits .bf16 < FTy.bits .f32) (x : (Sh n).Idx) :
    addf (F := F) (shapeCast (Sh n) w hc) (extf .f32 (shapeCast (Sh n) u hc') hb) x
      = FloatOps.addf (φ := .f32) (w x) (FloatOps.extf (φ := .bf16) .f32 hb (u (ix3 (0 : Fin 1) (x 0) (x 1)))) := by
  rw [shapeCast_self]
  show FloatOps.addf (w x) (FloatOps.extf .f32 hb (shapeCast (Sh n) u hc' x)) = _
  rw [show shapeCast (Sh n) u hc' x = u (ix3 (0 : Fin 1) (x 0) (x 1)) from by
    conv_lhs => rw [eq_ix2 x]
    exact shapeCast_1ab_ab_apply u hc' (x 0) (x 1)]

/-- and the landed rows alone. -/
theorem pay_copy {u : (Sh1 n).Idx → F .bf16} (hc' : (Sh1 n).ShapeCasts (Sh n)) (hb : FTy.bits .bf16 < FTy.bits .f32) (x : (Sh n).Idx) :
    extf (F := F) .f32 (shapeCast (Sh n) u hc') hb x = FloatOps.extf (φ := .bf16) .f32 hb (u (ix3 (0 : Fin 1) (x 0) (x 1))) := by
  show FloatOps.extf .f32 hb (shapeCast (Sh n) u hc' x) = _
  rw [show shapeCast (Sh n) u hc' x = u (ix3 (0 : Fin 1) (x 0) (x 1)) from by
    conv_lhs => rw [eq_ix2 x]
    exact shapeCast_1ab_ab_apply u hc' (x 0) (x 1)]

end Cert.KernelIdeal.Exchange
-- ==== Proof.Steps.lean ====
module

public import proofs.«01_k».proof.Proof.Access

@[expose] public section

/-!
# One step of the exchange

A step fills the sending buffer from the partial result, sends it to the partner's landing slot, waits for its own
send and for the partner's, and then adds the landed rows (a halving step) or copies them (a doubling step). Each
part is stated for any program continuing from it.
-/

set_option maxRecDepth 16384

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal

variable {F : FTy → Type} [FloatOps F]

local notation "𝕄" => MT nD τ sig Unit (Elt F) ℕ UU ℕ

abbrev 𝒱₀ : Variants := Variants.none

/-- The weakest precondition of a program of device `c`'s core. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

variable (P : Dev nD → Part F)

/-- What device `c` brings to step `s`: the step's cells, its two positions, the tokens of the duties it pays, and the
    credit of the arrival it waits for. -/
def stepIn (s : Fin 8) (c : Dev nD) : sProp 𝕄 :=
  iprop(∃ κ₁ κ₂ κ₃ : ℕ, cellInv ER (rd P) κ₁ (sendCell s c) ∗ cellInv ER (rd P) κ₂ (recvCell s c) ∗ cellInv ER (rd P) κ₃ (recvCell s (pt s c))
    ∗ atPos ER (sendCell s c) 0 ∅ 0 ∗ atPos ER (recvCell s c) 0 ∅ 0 ∗ reached ER (sendCell s c) 0
    ∗ dutyTok ER (sendCell s c) 0 0 ∗ dutyTok ER (recvCell s (pt s c)) 0 0 ∗ cred (tallyAt (recvCell s c) () (N s)))
/-- What it has from the barrier for step `s`: its partner's landing slot, the partner's arrival cell open. -/
def slotIn (s : Fin 8) (c : Dev nD) : sProp 𝕄 := iprop((∃ f, slotPt s (pt s c) f) ∗ reached ER (recvCell s (pt s c)) 0)
/-- What step `s` leaves: its counters at zero and its own landing slot. -/
def stepOut (s : Fin 8) (c : Dev nD) : sProp 𝕄 :=
  iprop(semVal (sendCell s c) 0 ∗ semVal (recvCell s c) 0 ∗ ∃ f : Comm F, slotPt s c f)

variable {n : ℕ}

/-- Filling the sending buffer: the rows of the partial result loaded, and stored through `pay`. -/
theorem wp_fill (c : Dev nD) (off : Fin 2 → ℕ) (hO : ∀ a, off a + (Sh n).size a ≤ S1024x768.size a)
    (hS : ∀ a, (![0, 0] : Fin 2 → ℕ) a + (Sh n).size a ≤ S512x768.size a)
    (pay : Vec F (Sh n) .f32 → Vec F (Sh n) .bf16)
    {hl : outM.view.LoadsAt (rOut n off hO).toLoadRect} {hl' : sbM.view.LoadsAt (rSb n hS).toLoadRect}
    {hx : (sbM.access (rSb n hS)).Stores Finset.univ} {hm : (Finset.univ : Finset (rSb n hS).shape.Idx) = Finset.univ ∨ ∀ a, (rSb n hS).stride a = 1}
    {α : Type} {Q : α → sProp 𝕄} {k : PUnit → Prog (TpuEff nD τ sig (Elt F) Λ₀ .tc) α} (X : Part F) (f : (cc0_scratch1 : Ref sig .tc).ty.Contents (Elt F)) :
    iprop(outPt c X ∗ sbPt c f)
      ⊢ iprop((outPt c X ∗ sbPt c ((sbM.access (rSb n hS)).write (Elt F) f (pay (outM.view.readAt (Elt F) (rOut n off hO).toLoadRect X)) Finset.univ) -∗ WP c (k ⟨⟩) Q)
        -∗ WP c (.op (.load outM (rOut n off hO).toLoadRect hl) fun (v : Vec F (Sh n) .f32) => .op (.load sbM (rSb n hS).toLoadRect hl') fun _ =>
            .op (.store sbM (rSb n hS) (pay v) Finset.univ hx hm) k) Q) := by
  iintro ⟨Hout, Hsb⟩ Hk
  iapply (wp_load 𝒱₀ (c : Thread nD τ) none Set.univ (m := outM) (S := Finset.univ) (Finset.subset_univ _)) $$ Hout
  iintro Hout
  iapply (wp_load 𝒱₀ (c : Thread nD τ) none Set.univ (m := sbM) (S := Finset.univ) (Finset.subset_univ _)) $$ Hsb
  iintro Hsb
  iapply (wp_store 𝒱₀ (c : Thread nD τ) none Set.univ (m := sbM) (r := rSb n hS) (Mk := Finset.univ) (S := Finset.univ) (Finset.subset_univ _)) $$ Hsb
  iintro Hsb
  iapply Hk
  isplitl [Hout]; · iexact Hout
  iexact Hsb

/-- The sending buffer, filled through a narrowing `pay`, holds the step's message. -/
theorem read_msg (s : Fin 8) (c : Dev nD) (off : Fin 2 → ℕ) (hoff : off = ![offS s c, 0]) (hO : ∀ a, off a + (Sh n).size a ≤ S1024x768.size a)
    (hS : ∀ a, (![0, 0] : Fin 2 → ℕ) a + (Sh n).size a ≤ S512x768.size a)
    (pay : Vec F (Sh n) .f32 → Vec F (Sh n) .bf16) (hpay : ∀ v x, pay v x = FloatOps.truncf (φ := .f32) .bf16 (by decide) (v x))
    (X : Dev nD → Part F) (f : (cc0_scratch1 : Ref sig .tc).ty.Contents (Elt F)) (x : (Sh n).Idx) :
    (sbV n hS).view.read (Elt F) ((sbM.access (rSb n hS)).write (Elt F) f (pay (outM.view.readAt (Elt F) (rOut n off hO).toLoadRect (X c))) Finset.univ) x
      = msg s X c (x 0).val (x 1) :=
  (congrFun (read_filled hS f _) x).trans ((hpay _ x).trans (congrArg (FloatOps.truncf (φ := .f32) .bf16 (by decide)) (read_out off _ hoff hO (X c) x)))

/-- The transfer of step `s` from device `c` to its partner. -/
theorem wp_send (s : Fin 8) (c p : Dev nD) (hp : p = pt s c) (hn : n = rows s) (offc : Fin 3 → ℕ) (hoffc : offc = ![s.val, 0, 0])
    (hS : ∀ a, (![0, 0] : Fin 2 → ℕ) a + (Sh n).size a ≤ S512x768.size a)
    (hC : ∀ a, offc a + (Sh1 n).size a ≤ S8x512x768.size a) (hq : (Sh1 n).Squeezes (Sh n))
    (sS sR : DmaSem sig) (hsS : sS = sendSem s) (hsR : sR = recvSem s)
    {hsc : (cmV n offc hC hq : Memref sig (Dev.tc p : Thread nD τ).2.kind .vmem (Sh n) .bf16).view.ref.isScScratch = false}
    {hsrc : (sbV n hS).view.WordExact} {hdst : (cmV n offc hC hq : Memref sig (Dev.tc p : Thread nD τ).2.kind .vmem (Sh n) .bf16).view.WordExact}
    {hsem : DmaTarget.Typed .vmem (.dma sR) (.remote (Dev.tc p : Thread nD τ) (cmV n offc hC hq : Memref sig (Dev.tc p : Thread nD τ).2.kind .vmem (Sh n) .bf16) (.dma sS) hsc)}
    {α : Type} {Q : α → sProp 𝕄} {k : PUnit → Prog (TpuEff nD τ sig (Elt F) Λ₀ .tc) α} (κ₁ κ₃ : ℕ) (W : Waits sig Unit)
    (g : (cc0_scratch1 : Ref sig .tc).ty.Contents (Elt F)) (f : Comm F)
    (hg : ∀ x, (sbV n hS).view.read (Elt F) g x = msg s (outSt P s.val) c (x 0).val (x 1)) :
    iprop(cellInv ER (rd P) κ₁ (sendCell s c) ∗ cellInv ER (rd P) κ₃ (recvCell s (pt s c))
        ∗ ((c : Thread nD τ).loc cc0_scratch1 ↦[sbSet s]{fullShare} g) ∗ slotPt s (pt s c) f ∗ owes (c : Thread nD τ) (Os s.val c) W
        ∗ dutyTok ER (sendCell s c) 0 0 ∗ reached ER (sendCell s c) 0 ∗ dutyTok ER (recvCell s (pt s c)) 0 0 ∗ reached ER (recvCell s (pt s c)) 0)
      ⊢ iprop(((cred (tallyAt (sendCell s c) () (N s)) ∗ owes (c : Thread nD τ) (Os (s.val + 1) c) W) -∗ WP c (k ⟨⟩) Q)
          -∗ WP c (.op (.enqueueDma (sbV n hS) (.remote (Dev.tc p : Thread nD τ) (cmV n offc hC hq) (.dma sS) hsc) (.dma sR) hsrc hdst hsem) k) Q) := by
  subst hp hn hsS hsR
  unfold slotPt
  rw [← set_sb s rfl hS, ← set_cm offc s rfl hoffc hC hq]
  have hpay₁ : ((c : Thread nD τ).loc cc0_scratch1 ↦[(sbV (rows s) hS).view.set]{fullShare} g : sProp 𝕄) ⊢ (rd P).payload (sendCell s c) 0 0 := by
    rw [payload_send]; unfold sendPay; rw [← set_sb s rfl hS]
    iintro H; iexists g; iexact H
  have hpay₂ : ((pt s c : Thread nD τ).loc cc0_scratch2 ↦[(cmV (rows s) offc hC hq).view.set]{fullShare}
      ((cmV (rows s) offc hC hq).view.write (Elt F) f ((sbV (rows s) hS).view.read (Elt F) g) Finset.univ) : sProp 𝕄) ⊢ (rd P).payload (recvCell s (pt s c)) 0 0 := by
    rw [payload_recv]; unfold recvPay slotPt
    rw [set_cm offc s rfl hoffc hC hq]
    exact Entails.of_eq (pointsTo_congr fun i hi =>
      write_slot offc s rfl hoffc hC hq (outSt P s.val) (pt s c) f _ (fun x => by rw [pt_pt]; exact hg x) i hi)
  have hN : (cmV (rows s) offc hC hq).view.amount (.dma (recvSem s)) = N s := rfl
  have hr : τ.routes (c : Thread nD τ) (pt s c : Thread nD τ) = true := by routes
  have h1 : (0 : Fin 4) ∈ (rd P).duties (sendCell s c) 0 := by rw [duties_send]; exact Finset.mem_singleton_self _
  have h2 : (0 : Fin 4) ∈ (rd P).duties (recvCell s (pt s c)) 0 := by rw [duties_recv]; exact Finset.mem_singleton_self _
  exact Rounds.wp_send_pointsTo 𝒱₀ ER (rd P) (c : Thread nD τ) none (c' := (pt s c : Thread nD τ)) (src := sbV (rows s) hS)
    (dst := cmV (rows s) offc hC hq) (sS := .dma (sendSem s)) (sem := .dma (recvSem s)) (κ₁ := κ₁) (κ₂ := κ₃) (fs := g) (fd := f)
    (r₁ := 0) (r₂ := 0) (d₁ := 0) (d₂ := 0) h1 h2
    () () (N s) hN (amount_send P s c 0) (amount_recv P s (pt s c) 0) (Os (s.val + 1) c) (Os_succ s c) (W := W) hpay₁ hpay₂ hr

/-- Sending and waiting: the transfer, the wait for its end, the wait for the partner's. -/
theorem wp_exchange (s : Fin 8) (c p : Dev nD) (hp : p = pt s c) (hn : n = rows s) (offc : Fin 3 → ℕ) (hoffc : offc = ![s.val, 0, 0])
    (hS : ∀ a, (![0, 0] : Fin 2 → ℕ) a + (Sh n).size a ≤ S512x768.size a)
    (hC : ∀ a, offc a + (Sh1 n).size a ≤ S8x512x768.size a) (hq : (Sh1 n).Squeezes (Sh n))
    (sS sR : DmaSem sig) (hsS : sS = sendSem s) (hsR : sR = recvSem s)
    {hsc : (cmV n offc hC hq : Memref sig (Dev.tc p : Thread nD τ).2.kind .vmem (Sh n) .bf16).view.ref.isScScratch = false}
    {hsrc : (sbV n hS).view.WordExact} {hdst : (cmV n offc hC hq : Memref sig (Dev.tc p : Thread nD τ).2.kind .vmem (Sh n) .bf16).view.WordExact}
    {hsem : DmaTarget.Typed .vmem (.dma sR) (.remote (Dev.tc p : Thread nD τ) (cmV n offc hC hq : Memref sig (Dev.tc p : Thread nD τ).2.kind .vmem (Sh n) .bf16) (.dma sS) hsc)}
    {h1 : (cmV n offc hC hq).view.WordExact} {h2 : (sbV n hS).view.WordExact} {h3 : (sbV n hS).view.WordExact} {h4 : (cmV n offc hC hq).view.WordExact}
    {α : Type} {Q : α → sProp 𝕄} {k : PUnit → Prog (TpuEff nD τ sig (Elt F) Λ₀ .tc) α}
    (g : (cc0_scratch1 : Ref sig .tc).ty.Contents (Elt F))
    (hg : ∀ x, (sbV n hS).view.read (Elt F) g x = msg s (outSt P s.val) c (x 0).val (x 1)) :
    iprop(stepIn P s c ∗ slotIn s c ∗ sbPt c g ∗ levAts L lv ∗ ∃ W : Waits sig Unit, owes (c : Thread nD τ) (Os s.val c) W)
      ⊢ iprop(((semVal (sendCell s c) 0 ∗ semVal (recvCell s c) 0 ∗ slotPt s c (landed s (outSt P s.val) c) ∗ (∃ f, sbPt c f)
              ∗ ∃ W : Waits sig Unit, owes (c : Thread nD τ) (Os (s.val + 1) c) W) -∗ WP c (k ⟨⟩) Q)
          -∗ WP c (.op (.enqueueDma (sbV n hS) (.remote (Dev.tc p : Thread nD τ) (cmV n offc hC hq) (.dma sS) hsc) (.dma sR) hsrc hdst hsem) fun _ =>
              .op (.waitDma2 sS (cmV n offc hC hq) (sbV n hS) h1 h2) fun _ => .op (.waitDma2 sR (sbV n hS) (cmV n offc hC hq) h3 h4) k) Q) := by
  unfold stepIn slotIn
  iintro ⟨⟨%κ₁, %κ₂, %κ₃, #HIs, #HIr, #HIp, HatS, HatR, #HrS, HtS, HtR, HcR⟩, ⟨⟨%f, Hslot⟩, #HrP⟩, Hsb, #Hlev, ⟨%W, HO⟩⟩ Hk
  ihave Hsb2 := (pointsTo_split_subset (Finset.subset_univ (sbSet s))).1 $$ Hsb
  icases Hsb2 with ⟨Hsb, Hrest⟩
  iapply (wp_send P s c p hp hn offc hoffc hS hC hq sS sR hsS hsR κ₁ κ₃ W g f hg) $$ [Hsb Hslot HO HtS HtR]
  · isplitr; · iexact HIs
    isplitr; · iexact HIp
    isplitl [Hsb]; · iexact Hsb
    isplitl [Hslot]; · iexact Hslot
    isplitl [HO]; · iexact HO
    isplitl [HtS]; · iexact HtS
    isplitr; · iexact HrS
    isplitl [HtR]; · iexact HtR
    iexact HrP
  iintro ⟨HcS, HO⟩
  subst hsS hsR hn
  iapply (Rounds.wp_wait_rest_token 𝒱₀ ER (rd P) (c : Thread nD τ) none (κ := κ₁)
      (wpE_waitDma2_eq 𝒱₀ (c : Thread nD τ) none Set.univ) (Set.mem_univ _) () (O := Os (s.val + 1) c) (W := W) (R := 0) (m := 0) (T := ∅)
      (by rw [Nat.zero_add, expect_send]; rfl)) $$ [HcS HO HatS]
  · isplitr; · iexact HIs
    isplitl [HcS]; · iexact HcS
    isplitl [HO]; · iexact HO
    isplitr; · iapply (mayWait_send s (s.val + 1) c); iexact Hlev
    iexact HatS
  iintro ⟨HO, HatS, -, Hpay⟩
  ihave Hp := (Entails.of_eq (rest_send P s c)) $$ Hpay
  iapply (Rounds.wp_wait_rest_token 𝒱₀ ER (rd P) (c : Thread nD τ) none (κ := κ₂)
      (wpE_waitDma2_eq 𝒱₀ (c : Thread nD τ) none Set.univ) (Set.mem_univ _) () (O := Os (s.val + 1) c) (W := insert (SemLoc.dma (sendSem s), ()) W) (R := 0) (m := 0) (T := ∅)
      (by rw [Nat.zero_add, expect_recv]; rfl)) $$ [HcR HO HatR]
  · isplitr; · iexact HIr
    isplitl [HcR]; · iexact HcR
    isplitl [HO]; · iexact HO
    isplitr; · iapply (mayWait_recv s c); iexact Hlev
    iexact HatR
  iintro ⟨HO, HatR, -, Hpay⟩
  ihave Hl := (Entails.of_eq (rest_recv P s c)) $$ Hpay
  imod (Rounds.cell_close ER (rd P) (Set.mem_univ κ₁) id (duties_later P (sendCell s c))) $$ [HatS] with HzS
  · isplitr; · iexact HIs
    iexact HatS
  imod (Rounds.cell_close ER (rd P) (Set.mem_univ κ₂) id (duties_later P (recvCell s c))) $$ [HatR] with HzR
  · isplitr; · iexact HIr
    iexact HatR
  iapply Hk
  isplitl [HzS]; · iexact HzS
  isplitl [HzR]; · iexact HzR
  isplitl [Hl]; · unfold recvPay; iexact Hl
  isplitl [Hp Hrest]
  · unfold sendPay
    icases Hp with ⟨%f', Hp⟩
    iexists (sbSet s).piecewise f' g
    iapply (pointsTo_join_subset (Finset.subset_univ (sbSet s)))
    isplitl [Hp]; · iexact Hp
    iexact Hrest
  iexists _; iexact HO

/-- Adding the landed rows: the partial result and the slot loaded, their sum stored. -/
theorem wp_add (s : Fin 8) (c : Dev nD) (hn : n = rows s) (hs : s.val < 4) (off : Fin 2 → ℕ) (hoff : off = ![offD s c, 0]) (offc : Fin 3 → ℕ) (hoffc : offc = ![s.val, 0, 0])
    (hO : ∀ a, off a + (Sh n).size a ≤ S1024x768.size a) (hC : ∀ a, offc a + (Sh1 n).size a ≤ S8x512x768.size a) (hq : (Sh1 n).Squeezes (Sh n))
    (pay : Vec F (Sh n) .f32 → Vec F (Sh1 n) .bf16 → Vec F (Sh n) .f32)
    (hpay : ∀ v u (x : (Sh n).Idx), pay v u x = FloatOps.addf (φ := .f32) (v x) (FloatOps.extf (φ := .bf16) .f32 (by decide) (u (ix3 (0 : Fin 1) (x 0) (x 1)))))
    {hl hl' : outM.view.LoadsAt (rOut n off hO).toLoadRect} {hl'' : cmM.view.LoadsAt (rCm n offc hC).toLoadRect}
    {hx : (outM.access (rOut n off hO)).Stores Finset.univ} {hm : (Finset.univ : Finset (rOut n off hO).shape.Idx) = Finset.univ ∨ ∀ a, (rOut n off hO).stride a = 1}
    {α : Type} {Q : α → sProp 𝕄} {k : PUnit → Prog (TpuEff nD τ sig (Elt F) Λ₀ .tc) α} (X : Dev nD → Part F) :
    iprop(outPt c (X c) ∗ slotPt s c (landed s X c))
      ⊢ iprop((outPt c (next s X c) ∗ slotPt s c (landed s X c) -∗ WP c (k ⟨⟩) Q)
        -∗ WP c (.op (.load outM (rOut n off hO).toLoadRect hl) fun (v : Vec F (Sh n) .f32) => .op (.load cmM (rCm n offc hC).toLoadRect hl'') fun (u : Vec F (Sh1 n) .bf16) =>
            .op (.load outM (rOut n off hO).toLoadRect hl') fun _ => .op (.store outM (rOut n off hO) (pay v u) Finset.univ hx hm) k) Q) := by
  iintro ⟨Hout, Hsl⟩ Hk
  iapply (wp_load 𝒱₀ (c : Thread nD τ) none Set.univ (m := outM) (S := Finset.univ) (Finset.subset_univ _)) $$ Hout
  iintro Hout
  iapply (wp_load 𝒱₀ (c : Thread nD τ) none Set.univ (m := cmM) (S := slotSet s) (setOn_slot offc s hn hoffc hC hq)) $$ Hsl
  iintro Hsl
  iapply (wp_load 𝒱₀ (c : Thread nD τ) none Set.univ (m := outM) (S := Finset.univ) (Finset.subset_univ _)) $$ Hout
  iintro Hout
  iapply (wp_store 𝒱₀ (c : Thread nD τ) none Set.univ (m := outM) (r := rOut n off hO) (Mk := Finset.univ) (S := Finset.univ) (Finset.subset_univ _)) $$ Hout
  iintro Hout
  rw [write_out off s hn c hoff hO X _ (fun x => by
    have hx0 : (x 0).val < n := (x 0).isLt
    rw [hpay, read_out off _ hoff hO, read_slot offc s hoffc hC]; exact (next_halving s hs X c (x 0).val (by omega) (x 1)).symm)]
  iapply Hk
  isplitl [Hout]; · iexact Hout
  iexact Hsl

/-- Copying the landed rows: the slot loaded and stored, widened, over the rows of the partial result. -/
theorem wp_copy (s : Fin 8) (c : Dev nD) (hn : n = rows s) (hs : ¬ s.val < 4) (off : Fin 2 → ℕ) (hoff : off = ![offD s c, 0]) (offc : Fin 3 → ℕ) (hoffc : offc = ![s.val, 0, 0])
    (hO : ∀ a, off a + (Sh n).size a ≤ S1024x768.size a) (hC : ∀ a, offc a + (Sh1 n).size a ≤ S8x512x768.size a) (hq : (Sh1 n).Squeezes (Sh n))
    (pay : Vec F (Sh1 n) .bf16 → Vec F (Sh n) .f32)
    (hpay : ∀ u (x : (Sh n).Idx), pay u x = FloatOps.extf (φ := .bf16) .f32 (by decide) (u (ix3 (0 : Fin 1) (x 0) (x 1))))
    {hl : outM.view.LoadsAt (rOut n off hO).toLoadRect} {hl'' : cmM.view.LoadsAt (rCm n offc hC).toLoadRect}
    {hx : (outM.access (rOut n off hO)).Stores Finset.univ} {hm : (Finset.univ : Finset (rOut n off hO).shape.Idx) = Finset.univ ∨ ∀ a, (rOut n off hO).stride a = 1}
    {α : Type} {Q : α → sProp 𝕄} {k : PUnit → Prog (TpuEff nD τ sig (Elt F) Λ₀ .tc) α} (X : Dev nD → Part F) :
    iprop(outPt c (X c) ∗ slotPt s c (landed s X c))
      ⊢ iprop((outPt c (next s X c) ∗ slotPt s c (landed s X c) -∗ WP c (k ⟨⟩) Q)
        -∗ WP c (.op (.load cmM (rCm n offc hC).toLoadRect hl'') fun (u : Vec F (Sh1 n) .bf16) =>
            .op (.load outM (rOut n off hO).toLoadRect hl) fun _ => .op (.store outM (rOut n off hO) (pay u) Finset.univ hx hm) k) Q) := by
  iintro ⟨Hout, Hsl⟩ Hk
  iapply (wp_load 𝒱₀ (c : Thread nD τ) none Set.univ (m := cmM) (S := slotSet s) (setOn_slot offc s hn hoffc hC hq)) $$ Hsl
  iintro Hsl
  iapply (wp_load 𝒱₀ (c : Thread nD τ) none Set.univ (m := outM) (S := Finset.univ) (Finset.subset_univ _)) $$ Hout
  iintro Hout
  iapply (wp_store 𝒱₀ (c : Thread nD τ) none Set.univ (m := outM) (r := rOut n off hO) (Mk := Finset.univ) (S := Finset.univ) (Finset.subset_univ _)) $$ Hout
  iintro Hout
  rw [write_out off s hn c hoff hO X _ (fun x => by
    have hx0 : (x 0).val < n := (x 0).isLt
    rw [hpay, read_slot offc s hoffc hC]; exact (next_doubling s hs X c (x 0).val (by omega) (x 1)).symm)]
  iapply Hk
  isplitl [Hout]; · iexact Hout
  iexact Hsl

/-- The state of the exchange before step `s`. -/
def at_ (s : ℕ) (c : Dev nD) : sProp 𝕄 :=
  iprop(outPt c (outSt P s c) ∗ (∃ f, sbPt c f) ∗ ∃ W : Waits sig Unit, owes (c : Thread nD τ) (Os s c) W)

/-- A halving step. -/
theorem wp_halve (s : Fin 8) (c p : Dev nD) (hs : s.val < 4) (hp : p = pt s c) (hn : n = rows s)
    (off off' : Fin 2 → ℕ) (hoff : off = ![offS s c, 0]) (hoff' : off' = ![offD s c, 0]) (offc : Fin 3 → ℕ) (hoffc : offc = ![s.val, 0, 0])
    (hO : ∀ a, off a + (Sh n).size a ≤ S1024x768.size a) (hO' : ∀ a, off' a + (Sh n).size a ≤ S1024x768.size a)
    (hS : ∀ a, (![0, 0] : Fin 2 → ℕ) a + (Sh n).size a ≤ S512x768.size a)
    (hC : ∀ a, offc a + (Sh1 n).size a ≤ S8x512x768.size a) (hq : (Sh1 n).Squeezes (Sh n))
    (sS sR : DmaSem sig) (hsS : sS = sendSem s) (hsR : sR = recvSem s)
    (pay : Vec F (Sh n) .f32 → Vec F (Sh n) .bf16) (hpay : ∀ v x, pay v x = FloatOps.truncf (φ := .f32) .bf16 (by decide) (v x))
    (pay' : Vec F (Sh n) .f32 → Vec F (Sh1 n) .bf16 → Vec F (Sh n) .f32)
    (hpay' : ∀ v u (x : (Sh n).Idx), pay' v u x = FloatOps.addf (φ := .f32) (v x) (FloatOps.extf (φ := .bf16) .f32 (by decide) (u (ix3 (0 : Fin 1) (x 0) (x 1)))))
    {a1 : outM.view.LoadsAt (rOut n off hO).toLoadRect} {a2 : sbM.view.LoadsAt (rSb n hS).toLoadRect}
    {a3 : (sbM.access (rSb n hS)).Stores Finset.univ} {a4 : (Finset.univ : Finset (rSb n hS).shape.Idx) = Finset.univ ∨ ∀ a, (rSb n hS).stride a = 1}
    {hsc : (cmV n offc hC hq : Memref sig (Dev.tc p : Thread nD τ).2.kind .vmem (Sh n) .bf16).view.ref.isScScratch = false}
    {hsrc : (sbV n hS).view.WordExact} {hdst : (cmV n offc hC hq : Memref sig (Dev.tc p : Thread nD τ).2.kind .vmem (Sh n) .bf16).view.WordExact}
    {hsem : DmaTarget.Typed .vmem (.dma sR) (.remote (Dev.tc p : Thread nD τ) (cmV n offc hC hq : Memref sig (Dev.tc p : Thread nD τ).2.kind .vmem (Sh n) .bf16) (.dma sS) hsc)}
    {h1 : (cmV n offc hC hq).view.WordExact} {h2 : (sbV n hS).view.WordExact} {h3 : (sbV n hS).view.WordExact} {h4 : (cmV n offc hC hq).view.WordExact}
    {b1 b3 : outM.view.LoadsAt (rOut n off' hO').toLoadRect} {b2 : cmM.view.LoadsAt (rCm n offc hC).toLoadRect}
    {b4 : (outM.access (rOut n off' hO')).Stores Finset.univ} {b5 : (Finset.univ : Finset (rOut n off' hO').shape.Idx) = Finset.univ ∨ ∀ a, (rOut n off' hO').stride a = 1}
    {α : Type} {Q : α → sProp 𝕄} {k : PUnit → Prog (TpuEff nD τ sig (Elt F) Λ₀ .tc) α} :
    iprop(levAts L lv ∗ at_ P s.val c ∗ stepIn P s c ∗ slotIn s c)
      ⊢ iprop((at_ P (s.val + 1) c ∗ stepOut s c -∗ WP c (k ⟨⟩) Q)
        -∗ WP c (.op (.load outM (rOut n off hO).toLoadRect a1) fun (v : Vec F (Sh n) .f32) => .op (.load sbM (rSb n hS).toLoadRect a2) fun _ =>
            .op (.store sbM (rSb n hS) (pay v) Finset.univ a3 a4) fun _ =>
            .op (.enqueueDma (sbV n hS) (.remote (Dev.tc p : Thread nD τ) (cmV n offc hC hq) (.dma sS) hsc) (.dma sR) hsrc hdst hsem) fun _ =>
              .op (.waitDma2 sS (cmV n offc hC hq) (sbV n hS) h1 h2) fun _ => .op (.waitDma2 sR (sbV n hS) (cmV n offc hC hq) h3 h4) fun _ =>
            .op (.load outM (rOut n off' hO').toLoadRect b1) fun (v : Vec F (Sh n) .f32) => .op (.load cmM (rCm n offc hC).toLoadRect b2) fun (u : Vec F (Sh1 n) .bf16) =>
            .op (.load outM (rOut n off' hO').toLoadRect b3) fun _ => .op (.store outM (rOut n off' hO') (pay' v u) Finset.univ b4 b5) k) Q) := by
  unfold at_
  iintro ⟨#Hlev, ⟨Hout, ⟨%f, Hsb⟩, HO⟩, Hin, Hsl⟩ Hk
  iapply (wp_fill c off hO hS pay (outSt P s.val c) f) $$ [Hout Hsb]
  · isplitl [Hout]; · iexact Hout
    iexact Hsb
  iintro ⟨Hout, Hsb⟩
  iapply (wp_exchange P s c p hp hn offc hoffc hS hC hq sS sR hsS hsR _ (read_msg s c off hoff hO hS pay hpay (outSt P s.val) f)) $$ [Hin Hsl Hsb HO]
  · isplitl [Hin]; · iexact Hin
    isplitl [Hsl]; · iexact Hsl
    isplitl [Hsb]; · iexact Hsb
    isplitr; · iexact Hlev
    iexact HO
  iintro ⟨HzS, HzR, Hsl, Hsb, HO⟩
  iapply (wp_add s c hn hs off' hoff' offc hoffc hO' hC hq pay' hpay' (outSt P s.val)) $$ [Hout Hsl]
  · isplitl [Hout]; · iexact Hout
    iexact Hsl
  iintro ⟨Hout, Hsl⟩
  iapply Hk
  rw [outSt_succ]
  unfold stepOut
  isplitl [Hout Hsb HO]
  · isplitl [Hout]; · iexact Hout
    isplitl [Hsb]; · iexact Hsb
    iexact HO
  isplitl [HzS]; · iexact HzS
  isplitl [HzR]; · iexact HzR
  iexists _; iexact Hsl

/-- A doubling step. -/
theorem wp_double (s : Fin 8) (c p : Dev nD) (hs : ¬ s.val < 4) (hp : p = pt s c) (hn : n = rows s)
    (off off' : Fin 2 → ℕ) (hoff : off = ![offS s c, 0]) (hoff' : off' = ![offD s c, 0]) (offc : Fin 3 → ℕ) (hoffc : offc = ![s.val, 0, 0])
    (hO : ∀ a, off a + (Sh n).size a ≤ S1024x768.size a) (hO' : ∀ a, off' a + (Sh n).size a ≤ S1024x768.size a)
    (hS : ∀ a, (![0, 0] : Fin 2 → ℕ) a + (Sh n).size a ≤ S512x768.size a)
    (hC : ∀ a, offc a + (Sh1 n).size a ≤ S8x512x768.size a) (hq : (Sh1 n).Squeezes (Sh n))
    (sS sR : DmaSem sig) (hsS : sS = sendSem s) (hsR : sR = recvSem s)
    (pay : Vec F (Sh n) .f32 → Vec F (Sh n) .bf16) (hpay : ∀ v x, pay v x = FloatOps.truncf (φ := .f32) .bf16 (by decide) (v x))
    (pay' : Vec F (Sh1 n) .bf16 → Vec F (Sh n) .f32)
    (hpay' : ∀ u (x : (Sh n).Idx), pay' u x = FloatOps.extf (φ := .bf16) .f32 (by decide) (u (ix3 (0 : Fin 1) (x 0) (x 1))))
    {a1 : outM.view.LoadsAt (rOut n off hO).toLoadRect} {a2 : sbM.view.LoadsAt (rSb n hS).toLoadRect}
    {a3 : (sbM.access (rSb n hS)).Stores Finset.univ} {a4 : (Finset.univ : Finset (rSb n hS).shape.Idx) = Finset.univ ∨ ∀ a, (rSb n hS).stride a = 1}
    {hsc : (cmV n offc hC hq : Memref sig (Dev.tc p : Thread nD τ).2.kind .vmem (Sh n) .bf16).view.ref.isScScratch = false}
    {hsrc : (sbV n hS).view.WordExact} {hdst : (cmV n offc hC hq : Memref sig (Dev.tc p : Thread nD τ).2.kind .vmem (Sh n) .bf16).view.WordExact}
    {hsem : DmaTarget.Typed .vmem (.dma sR) (.remote (Dev.tc p : Thread nD τ) (cmV n offc hC hq : Memref sig (Dev.tc p : Thread nD τ).2.kind .vmem (Sh n) .bf16) (.dma sS) hsc)}
    {h1 : (cmV n offc hC hq).view.WordExact} {h2 : (sbV n hS).view.WordExact} {h3 : (sbV n hS).view.WordExact} {h4 : (cmV n offc hC hq).view.WordExact}
    {b1 : outM.view.LoadsAt (rOut n off' hO').toLoadRect} {b2 : cmM.view.LoadsAt (rCm n offc hC).toLoadRect}
    {b4 : (outM.access (rOut n off' hO')).Stores Finset.univ} {b5 : (Finset.univ : Finset (rOut n off' hO').shape.Idx) = Finset.univ ∨ ∀ a, (rOut n off' hO').stride a = 1}
    {α : Type} {Q : α → sProp 𝕄} {k : PUnit → Prog (TpuEff nD τ sig (Elt F) Λ₀ .tc) α} :
    iprop(levAts L lv ∗ at_ P s.val c ∗ stepIn P s c ∗ slotIn s c)
      ⊢ iprop((at_ P (s.val + 1) c ∗ stepOut s c -∗ WP c (k ⟨⟩) Q)
        -∗ WP c (.op (.load outM (rOut n off hO).toLoadRect a1) fun (v : Vec F (Sh n) .f32) => .op (.load sbM (rSb n hS).toLoadRect a2) fun _ =>
            .op (.store sbM (rSb n hS) (pay v) Finset.univ a3 a4) fun _ =>
            .op (.enqueueDma (sbV n hS) (.remote (Dev.tc p : Thread nD τ) (cmV n offc hC hq) (.dma sS) hsc) (.dma sR) hsrc hdst hsem) fun _ =>
              .op (.waitDma2 sS (cmV n offc hC hq) (sbV n hS) h1 h2) fun _ => .op (.waitDma2 sR (sbV n hS) (cmV n offc hC hq) h3 h4) fun _ =>
            .op (.load cmM (rCm n offc hC).toLoadRect b2) fun (u : Vec F (Sh1 n) .bf16) =>
            .op (.load outM (rOut n off' hO').toLoadRect b1) fun _ => .op (.store outM (rOut n off' hO') (pay' u) Finset.univ b4 b5) k) Q) := by
  unfold at_
  iintro ⟨#Hlev, ⟨Hout, ⟨%f, Hsb⟩, HO⟩, Hin, Hsl⟩ Hk
  iapply (wp_fill c off hO hS pay (outSt P s.val c) f) $$ [Hout Hsb]
  · isplitl [Hout]; · iexact Hout
    iexact Hsb
  iintro ⟨Hout, Hsb⟩
  iapply (wp_exchange P s c p hp hn offc hoffc hS hC hq sS sR hsS hsR _ (read_msg s c off hoff hO hS pay hpay (outSt P s.val) f)) $$ [Hin Hsl Hsb HO]
  · isplitl [Hin]; · iexact Hin
    isplitl [Hsl]; · iexact Hsl
    isplitl [Hsb]; · iexact Hsb
    isplitr; · iexact Hlev
    iexact HO
  iintro ⟨HzS, HzR, Hsl, Hsb, HO⟩
  iapply (wp_copy s c hn hs off' hoff' offc hoffc hO' hC hq pay' hpay' (outSt P s.val)) $$ [Hout Hsl]
  · isplitl [Hout]; · iexact Hout
    iexact Hsl
  iintro ⟨Hout, Hsl⟩
  iapply Hk
  rw [outSt_succ]
  unfold stepOut
  isplitl [Hout Hsb HO]
  · isplitl [Hout]; · iexact Hout
    isplitl [Hsb]; · iexact Hsb
    iexact HO
  isplitl [HzS]; · iexact HzS
  isplitl [HzR]; · iexact HzR
  iexists _; iexact Hsl

end Cert.KernelIdeal.Exchange
-- ==== Proof.Attn.lean ====
module

public import proofs.«01_k».proof.Proof.Steps

@[expose] public section

/-!
# One device's attention

What a device computes before the exchange: for each of the two batch entries the eight heads it holds, each a
masked softmax attention, gathered in the context buffer, and the context times the device's rows of the output
projection. One head, one projection of queries and one output block are each stated once, for any batch entry and
any head.
-/

set_option maxRecDepth 16384

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

variable {F : FTy → Type} [FloatOps F]

local notation "𝕄" => MT nD τ sig Unit (Elt F) ℕ UU ℕ

/-! ## The values -/

/-- The five inputs of one device's kernel, as its staging buffers hold them. -/
structure Ins (F : FTy → Type) where
  x : (cc0_stg0_0 : Ref sig .tc).ty.Contents (Elt F)
  wq : (cc0_stg1_0 : Ref sig .tc).ty.Contents (Elt F)
  k : (cc0_stg2_0 : Ref sig .tc).ty.Contents (Elt F)
  v : (cc0_stg3_0 : Ref sig .tc).ty.Contents (Elt F)
  wo : (cc0_stg4_0 : Ref sig .tc).ty.Contents (Elt F)

/-- One head: queries, keys and values to the head's context. -/
def headFn (q k v : FVec F S512x64 .bf16) : FVec F S512x64 .bf16 :=
  let s : FVec F S512x512 .f32 := select (k0_pay2 : IVec S512x512 1)
    (mulf (matmul dot_S512x64_S512x64_S512x512_1_1_0_0_n_n none q k (constant S512x512 .f32 0x00000000#32)) (broadcast S512x512 (Scalar.ofBits .f32 0x3E000000#32 : F .f32)))
    (broadcast S512x512 (Scalar.ofBits .f32 0xCE6E6B28#32 : F .f32))
  let m : FVec F S512 .f32 := multiReduction .maximumf [1] S512 s 0xFF800000#32 reduces_S512x512_S512 (.inl rfl) rfl
  let e : FVec F S512x512 .f32 := exp (subf s (broadcastTo S512x512 (shapeCast S512x1 m shapeCasts_S512_S512x1) broadcasts_S512x1_S512x512))
  let z : FVec F S512 .f32 := multiReduction .add [1] S512 e 0x00000000#32 reduces_S512x512_S512 (.inl rfl) rfl
  let p : FVec F S512x512 .f32 := divf e (broadcastTo S512x512 (shapeCast S512x1 z shapeCasts_S512_S512x1) broadcasts_S512x1_S512x512)
  shapeCast S512x64 (truncf .bf16 (matmul dot_S512x512_S512x64_S512x64_1_0_0_1_n_n none (truncf .bf16 p bitsLt_bf16_f32) v (constant S512x64 .f32 0x00000000#32)) bitsLt_bf16_f32)
    shapeCasts_S512x64_S512x64

/-- One batch entry of the activations, -/
def xRd (I : Ins F) (b : Fin 2) : Vec F S1x512x768 .bf16 := fun i => I.x (ix3 b (i 1) (i 2))
/-- the keys of one head, -/
def kRd (I : Ins F) (b : Fin 2) (h : Fin 8) : Vec F S1x512x1x64 .bf16 := fun i => I.k (ix4 b (i 1) h (i 3))
/-- and its values. -/
def vRd (I : Ins F) (b : Fin 2) (h : Fin 8) : Vec F S1x512x1x64 .bf16 := fun i => I.v (ix4 b (i 1) h (i 3))

/-- The queries of one batch entry, all heads side by side. -/
def qOf (I : Ins F) (b : Fin 2) : FVec F S512x512 .bf16 := k0_pay3 (xRd I b) I.wq

theorem slices_head (h : Fin 8) : S512x512.Slices ![0, 64 * h.val] S512x64 := by revert h; decide

/-- One head's context. -/
def headOf (I : Ins F) (b : Fin 2) (h : Fin 8) : FVec F S512x64 .bf16 :=
  headFn (extractStridedSlice S512x64 ![0, 64 * h.val] (qOf I b) (slices_head h))
    (shapeCast S512x64 (kRd I b h) shapeCasts_S1x512x1x64_S512x64) (shapeCast S512x64 (vRd I b h) shapeCasts_S1x512x1x64_S512x64)

/-- The head a column of the context belongs to, -/
def headIx (j : Fin 512) : Fin 8 := ⟨j.val / 64, by have := j.isLt; omega⟩
/-- and its place in it. -/
def headCol (j : Fin 512) : Fin 64 := ⟨j.val % 64, Nat.mod_lt _ (by decide)⟩

/-- The context of one batch entry, the heads side by side. -/
def ctxOf (I : Ins F) (b : Fin 2) : Vec F S512x512 .bf16 := fun i => headOf I b (headIx (i 1)) (ix2 (i 0) (headCol (i 1)))

/-- The output block of one batch entry. -/
def blockOf (I : Ins F) (b : Fin 2) : FVec F S512x768 .f32 := k0_pay20 (ctxOf I b) I.wo

/-- The device's partial result. -/
def partOf (I : Ins F) : Part F := fun i =>
  if h : (i 0).val < 512 then blockOf I 0 (ix2 (⟨(i 0).val, h⟩ : Fin 512) (i 1))
  else blockOf I 1 (ix2 (⟨(i 0).val - 512, by have : (i 0).val < 1024 := (i 0).isLt; omega⟩ : Fin 512) (i 1))

/-! ## What the loads read -/

abbrev xM : Memref sig .tc .vmem S2x512x768 .bf16 := Memref.whole cc0_stg0_0
abbrev wqM : Memref sig .tc .vmem S768x512 .bf16 := Memref.whole cc0_stg1_0
abbrev kM : Memref sig .tc .vmem S2x512x8x64 .bf16 := Memref.whole cc0_stg2_0
abbrev vM : Memref sig .tc .vmem S2x512x8x64 .bf16 := Memref.whole cc0_stg3_0
abbrev woM : Memref sig .tc .vmem S512x768 .bf16 := Memref.whole cc0_stg4_0
abbrev ctM : Memref sig .tc .vmem S512x512 .bf16 := Memref.whole cc0_scratch0

theorem zz : (![0, 0] : Fin 2 → ℕ) = fun _ => 0 := funext fun a => by match a with | 0 => rfl | 1 => rfl

/-- One head's keys or values, as a rectangle. -/
abbrev rHd (off : Fin 4 → ℕ) (h : ∀ a, off a + S1x512x1x64.size a ≤ S2x512x8x64.size a) : Rect S2x512x8x64 := Rect.unit (s := S2x512x8x64) off S1x512x1x64.size h
/-- One head's columns of the context, as a rectangle. -/
abbrev rCt (off : Fin 2 → ℕ) (h : ∀ a, off a + S512x64.size a ≤ S512x512.size a) : Rect S512x512 := Rect.unit (s := S512x512) off S512x64.size h

theorem emb_head (off : Fin 4 → ℕ) (b : Fin 2) (hd : Fin 8) (hoff : off = ![b.val, 0, hd.val, 0]) (h : ∀ a, off a + S1x512x1x64.size a ≤ S2x512x8x64.size a)
    (x : S1x512x1x64.Idx) : (rHd off h).emb x = ix4 b (x 1) hd (x 3) := by
  subst hoff
  funext a
  refine Fin.ext ((ValueKit.rect_emb_unit_val _ _ h x a).trans ?_)
  match a with
  | 0 =>
    have hx : (x 0).val < 1 := (x 0).isLt
    show b.val + (x 0).val = b.val; omega
  | 1 => exact Nat.zero_add _
  | 2 =>
    have hx : (x 2).val < 1 := (x 2).isLt
    show hd.val + (x 2).val = hd.val; omega
  | 3 => exact Nat.zero_add _

theorem read_k (I : Ins F) (off : Fin 4 → ℕ) (b : Fin 2) (hd : Fin 8) (hoff : off = ![b.val, 0, hd.val, 0])
    (h : ∀ a, off a + S1x512x1x64.size a ≤ S2x512x8x64.size a) : kM.view.readAt (Elt F) (rHd off h).toLoadRect I.k = kRd I b hd :=
  funext fun x => congrArg I.k (emb_head off b hd hoff h x)
theorem read_v (I : Ins F) (off : Fin 4 → ℕ) (b : Fin 2) (hd : Fin 8) (hoff : off = ![b.val, 0, hd.val, 0])
    (h : ∀ a, off a + S1x512x1x64.size a ≤ S2x512x8x64.size a) : vM.view.readAt (Elt F) (rHd off h).toLoadRect I.v = vRd I b hd :=
  funext fun x => congrArg I.v (emb_head off b hd hoff h x)

theorem read_x (I : Ins F) (off : Fin 3 → ℕ) (b : Fin 2) (hoff : off = ![b.val, 0, 0]) (h : ∀ a, off a + S1x512x768.size a ≤ S2x512x768.size a) :
    xM.view.readAt (Elt F) (Rect.unit (s := S2x512x768) off S1x512x768.size h).toLoadRect I.x = xRd I b := by
  subst hoff
  refine funext fun x => congrArg I.x ?_
  funext a
  refine Fin.ext ((ValueKit.rect_emb_unit_val _ _ h x a).trans ?_)
  match a with
  | 0 =>
    have hx : (x 0).val < 1 := (x 0).isLt
    show b.val + (x 0).val = b.val; omega
  | 1 => exact Nat.zero_add _
  | 2 => exact Nat.zero_add _

theorem read_ct (f : (cc0_scratch0 : Ref sig .tc).ty.Contents (Elt F)) (h : ∀ a, ![0, 0] a + S512x512.size a ≤ S512x512.size a) :
    ctM.view.readAt (Elt F) (Rect.unit (s := S512x512) ![0, 0] S512x512.size h).toLoadRect f = f :=
  Memref.readAt_unit_zero (Elt F) cc0_scratch0 zz h f

theorem read_wo (f : (cc0_stg4_0 : Ref sig .tc).ty.Contents (Elt F)) (h : ∀ a, ![0, 0] a + S512x768.size a ≤ S512x768.size a) :
    woM.view.readAt (Elt F) (Rect.unit (s := S512x768) ![0, 0] S512x768.size h).toLoadRect f = f :=
  Memref.readAt_unit_zero (Elt F) cc0_stg4_0 zz h f

theorem read_wq (f : (cc0_stg1_0 : Ref sig .tc).ty.Contents (Elt F)) (h : ∀ a, ![0, 0] a + S768x512.size a ≤ S768x512.size a) :
    wqM.view.readAt (Elt F) (Rect.unit (s := S768x512) ![0, 0] S768x512.size h).toLoadRect f = f :=
  Memref.readAt_unit_zero (Elt F) cc0_stg1_0 zz h f

/-! ## One head -/

abbrev xPt (c : Dev nD) (I : Ins F) : sProp 𝕄 := (c : Thread nD τ).loc cc0_stg0_0 ↦{fullShare} I.x
abbrev wqPt (c : Dev nD) (I : Ins F) : sProp 𝕄 := (c : Thread nD τ).loc cc0_stg1_0 ↦{fullShare} I.wq
abbrev kPt (c : Dev nD) (I : Ins F) : sProp 𝕄 := (c : Thread nD τ).loc cc0_stg2_0 ↦{fullShare} I.k
abbrev vPt (c : Dev nD) (I : Ins F) : sProp 𝕄 := (c : Thread nD τ).loc cc0_stg3_0 ↦{fullShare} I.v
abbrev woPt (c : Dev nD) (I : Ins F) : sProp 𝕄 := (c : Thread nD τ).loc cc0_stg4_0 ↦{fullShare} I.wo
/-- The context buffer, its first `n` heads holding those of batch entry `b`. -/
def ctPt (c : Dev nD) (I : Ins F) (b : Fin 2) (n : ℕ) : sProp 𝕄 :=
  iprop(∃ f : (cc0_scratch0 : Ref sig .tc).ty.Contents (Elt F), ⌜∀ i : S512x512.Idx, (i 1).val < 64 * n → f i = ctxOf I b i⌝ ∗ (c : Thread nD τ).loc cc0_scratch0 ↦{fullShare} f)

/-- What the heads of batch entry `b` work on: all keys and values, and the context with its first `n` heads. -/
def heads (c : Dev nD) (I : Ins F) (b : Fin 2) (n : ℕ) : sProp 𝕄 := iprop(kPt c I ∗ vPt c I ∗ ctPt c I b n)

/-- The context buffer after one more head's store. -/
theorem write_ctx (I : Ins F) (b : Fin 2) (hd : Fin 8) (off : Fin 2 → ℕ) (hoff : off = ![0, 64 * hd.val]) (h : ∀ a, off a + S512x64.size a ≤ S512x512.size a)
    (f : (cc0_scratch0 : Ref sig .tc).ty.Contents (Elt F)) (hf : ∀ i : S512x512.Idx, (i 1).val < 64 * hd.val → f i = ctxOf I b i)
    (i : S512x512.Idx) (hi : (i 1).val < 64 * (hd.val + 1)) :
    (ctM.access (rCt off h)).write (Elt F) f (headOf I b hd) Finset.univ i = ctxOf I b i := by
  subst hoff
  have hset : (ctM.access (rCt ![0, 64 * hd.val] h)).set = (rCt ![0, 64 * hd.val] h).set := View.set_slice_whole _ _
  by_cases hlt : (i 1).val < 64 * hd.val
  · rw [View.write_of_not_mem, hf i hlt]
    intro hm
    have hm' : i ∈ (ctM.access (rCt ![0, 64 * hd.val] h)).set := hm
    rw [hset, Rect.mem_set_unit] at hm'
    have h1 : 64 * hd.val ≤ (i 1).val ∧ (i 1).val < 64 * hd.val + 64 := hm' 1
    omega
  · have hm : i ∈ (ctM.access (rCt ![0, 64 * hd.val] h)).set := by
      rw [hset, Rect.mem_set_unit]
      have h0 : (i 0).val < 512 := (i 0).isLt
      intro a
      match a with
      | 0 => show 0 ≤ (i 0).val ∧ (i 0).val < 0 + 512; omega
      | 1 => show 64 * hd.val ≤ (i 1).val ∧ (i 1).val < 64 * hd.val + 64; omega
    obtain ⟨x, -, hx⟩ := Finset.mem_map.mp hm
    have e0 : (i 0).val = (x 0).val := by
      rw [← hx]; exact (ValueKit.rect_emb_unit_val _ _ h x 0).trans (Nat.zero_add _)
    have e1 : (i 1).val = 64 * hd.val + (x 1).val := by
      rw [← hx]; exact ValueKit.rect_emb_unit_val _ _ h x 1
    have hx1 : (x 1).val < 64 := (x 1).isLt
    rw [← hx, View.write_emb_of_mem _ _ (Finset.mem_univ x), hx]
    show headOf I b hd x = headOf I b (headIx (i 1)) (ix2 (i 0) (headCol (i 1)))
    have hh : headIx (i 1) = hd := Fin.ext (by show (i 1).val / 64 = hd.val; omega)
    have hxx : ix2 (i 0) (headCol (i 1)) = x := by
      funext a
      match a with
      | 0 => exact Fin.ext e0
      | 1 => exact Fin.ext (by show (i 1).val % 64 = (x 1).val; omega)
    rw [hh]
    exact congrArg (headOf I b hd) hxx.symm

/-- One head: its keys and values loaded, its context stored. -/
theorem wp_head (c : Dev nD) (I : Ins F) (b : Fin 2) (hd : Fin 8) (n m : ℕ) (hn : hd.val = n) (hm : n + 1 = m) (off : Fin 4 → ℕ) (hoff : off = ![b.val, 0, hd.val, 0])
    (h : ∀ a, off a + S1x512x1x64.size a ≤ S2x512x8x64.size a) (offc : Fin 2 → ℕ) (hoffc : offc = ![0, 64 * hd.val])
    (hc : ∀ a, offc a + S512x64.size a ≤ S512x512.size a)
    (pay : Vec F S1x512x1x64 .bf16 → Vec F S1x512x1x64 .bf16 → Vec F S512x64 .bf16) (hpay : pay (kRd I b hd) (vRd I b hd) = headOf I b hd)
    {a1 : kM.view.LoadsAt (rHd off h).toLoadRect} {a2 : vM.view.LoadsAt (rHd off h).toLoadRect} {a3 : ctM.view.LoadsAt (rCt offc hc).toLoadRect}
    {a4 : (ctM.access (rCt offc hc)).Stores Finset.univ} {a5 : (Finset.univ : Finset (rCt offc hc).shape.Idx) = Finset.univ ∨ ∀ a, (rCt offc hc).stride a = 1}
    {α : Type} {Q : α → sProp 𝕄} {k : PUnit → Prog (TpuEff nD τ sig (Elt F) Λ₀ .tc) α} :
    heads c I b n
      ⊢ iprop((heads c I b m -∗ WP c (k ⟨⟩) Q)
        -∗ WP c (.op (.load kM (rHd off h).toLoadRect a1) fun (kk : Vec F S1x512x1x64 .bf16) => .op (.load vM (rHd off h).toLoadRect a2) fun (vv : Vec F S1x512x1x64 .bf16) =>
            .op (.load ctM (rCt offc hc).toLoadRect a3) fun _ => .op (.store ctM (rCt offc hc) (pay kk vv) Finset.univ a4 a5) k) Q) := by
  subst hn hm
  unfold heads ctPt
  iintro ⟨Hk, Hv, ⟨%f, %hf, Hc⟩⟩ K
  iapply (wp_load 𝒱₀ (c : Thread nD τ) none Set.univ (m := kM) (S := Finset.univ) (Finset.subset_univ _)) $$ Hk
  iintro Hk
  rw [read_k I off b hd hoff h]
  iapply (wp_load 𝒱₀ (c : Thread nD τ) none Set.univ (m := vM) (S := Finset.univ) (Finset.subset_univ _)) $$ Hv
  iintro Hv
  rw [read_v I off b hd hoff h]
  iapply (wp_load 𝒱₀ (c : Thread nD τ) none Set.univ (m := ctM) (S := Finset.univ) (Finset.subset_univ _)) $$ Hc
  iintro Hc
  iapply (wp_store 𝒱₀ (c : Thread nD τ) none Set.univ (m := ctM) (r := rCt offc hc) (Mk := Finset.univ) (S := Finset.univ) (Finset.subset_univ _)) $$ Hc
  iintro Hc
  iapply K
  isplitl [Hk]; · iexact Hk
  isplitl [Hv]; · iexact Hv
  iexists _
  isplitr
  rotate_left
  · iexact Hc
  · ipureintro
    rw [hpay]
    exact write_ctx I b hd offc hoffc hc f hf

/-- The context buffer, whatever it holds. -/
theorem ctPt_zero (c : Dev nD) (I : Ins F) (b : Fin 2) (f : (cc0_scratch0 : Ref sig .tc).ty.Contents (Elt F)) :
    ((c : Thread nD τ).loc cc0_scratch0 ↦{fullShare} f : sProp 𝕄) ⊢ ctPt c I b 0 := by
  unfold ctPt
  iintro H
  iexists f
  isplitr
  · ipureintro; intro i hi; exact absurd hi (Nat.not_lt_zero _)
  · iexact H

/-- All eight heads stored: the buffer holds the context. -/
theorem ctPt_full (c : Dev nD) (I : Ins F) (b : Fin 2) : (ctPt c I b 8 : sProp 𝕄) ⊢ (c : Thread nD τ).loc cc0_scratch0 ↦{fullShare} (ctxOf I b : (cc0_scratch0 : Ref sig .tc).ty.Contents (Elt F)) := by
  unfold ctPt
  iintro ⟨%f, %hf, H⟩
  have : f = ctxOf I b := funext fun i => hf i (by have : (i 1).val < 512 := (i 1).isLt; omega)
  subst this
  iexact H

/-! ## One output block -/

/-- The output buffer, the blocks of its first `n` batch entries written. -/
def oPt (c : Dev nD) (I : Ins F) (n : ℕ) : sProp 𝕄 :=
  iprop(∃ f : Part F, ⌜∀ i : S1024x768.Idx, (i 0).val < 512 * n → f i = partOf I i⌝ ∗ outPt c f)

theorem partOf_block (I : Ins F) (b : Fin 2) (i : S1024x768.Idx) (x : S512x768.Idx) (h0 : (i 0).val = 512 * b.val + (x 0).val) (h1 : (i 1).val = (x 1).val) :
    partOf I i = blockOf I b x := by
  have hx : (x 0).val < 512 := (x 0).isLt
  unfold partOf
  match b with
  | 0 =>
    rw [dif_pos (show (i 0).val < 512 by rw [h0]; show 512 * 0 + _ < _; omega)]
    exact congrArg (blockOf I 0) (funext fun a => by match a with | 0 => exact Fin.ext (h0.trans (by show 512 * 0 + _ = _; omega)) | 1 => exact Fin.ext h1)
  | 1 =>
    rw [dif_neg (show ¬ (i 0).val < 512 by rw [h0]; show ¬ 512 * 1 + _ < _; omega)]
    exact congrArg (blockOf I 1) (funext fun a => by
      match a with
      | 0 => exact Fin.ext (by show (i 0).val - 512 = (x 0).val; rw [h0]; show 512 * 1 + _ - 512 = _; omega)
      | 1 => exact Fin.ext h1)

/-- The rows of one batch entry in the output, as a rectangle. -/
abbrev rBl (off : Fin 2 → ℕ) (h : ∀ a, off a + S512x768.size a ≤ S1024x768.size a) : Rect S1024x768 := Rect.unit (s := S1024x768) off S512x768.size h

theorem write_block (I : Ins F) (b : Fin 2) (off : Fin 2 → ℕ) (hoff : off = ![512 * b.val, 0]) (h : ∀ a, off a + S512x768.size a ≤ S1024x768.size a)
    (f : Part F) (hf : ∀ i : S1024x768.Idx, (i 0).val < 512 * b.val → f i = partOf I i)
    (i : S1024x768.Idx) (hi : (i 0).val < 512 * (b.val + 1)) :
    (outM.access (rBl off h)).write (Elt F) f (blockOf I b) Finset.univ i = partOf I i := by
  subst hoff
  have hset : (outM.access (rBl ![512 * b.val, 0] h)).set = (rBl ![512 * b.val, 0] h).set := View.set_slice_whole _ _
  by_cases hlt : (i 0).val < 512 * b.val
  · rw [View.write_of_not_mem, hf i hlt]
    intro hm
    have hm' : i ∈ (outM.access (rBl ![512 * b.val, 0] h)).set := hm
    rw [hset, Rect.mem_set_unit] at hm'
    have h1 : 512 * b.val ≤ (i 0).val ∧ (i 0).val < 512 * b.val + 512 := hm' 0
    omega
  · have hm : i ∈ (outM.access (rBl ![512 * b.val, 0] h)).set := by
      rw [hset, Rect.mem_set_unit]
      have h1 : (i 1).val < 768 := (i 1).isLt
      intro a
      match a with
      | 0 => show 512 * b.val ≤ (i 0).val ∧ (i 0).val < 512 * b.val + 512; omega
      | 1 => show 0 ≤ (i 1).val ∧ (i 1).val < 0 + 768; omega
    obtain ⟨x, -, hx⟩ := Finset.mem_map.mp hm
    have e0 : (i 0).val = 512 * b.val + (x 0).val := by
      rw [← hx]; exact ValueKit.rect_emb_unit_val _ _ h x 0
    have e1 : (i 1).val = (x 1).val := by
      rw [← hx]; exact (ValueKit.rect_emb_unit_val _ _ h x 1).trans (Nat.zero_add _)
    rw [partOf_block I b i x e0 e1, ← hx, View.write_emb_of_mem _ _ (Finset.mem_univ x)]
    rfl

/-- One output block: the context and the projection loaded, their product stored. -/
theorem wp_block (c : Dev nD) (I : Ins F) (b : Fin 2) (n m : ℕ) (hn : b.val = n) (hm : n + 1 = m) (offc : Fin 2 → ℕ) (hoffc : offc = ![0, 0]) (hc : ∀ a, offc a + S512x512.size a ≤ S512x512.size a)
    (offw : Fin 2 → ℕ) (hoffw : offw = ![0, 0]) (hw : ∀ a, offw a + S512x768.size a ≤ S512x768.size a)
    (off : Fin 2 → ℕ) (hoff : off = ![512 * b.val, 0]) (h : ∀ a, off a + S512x768.size a ≤ S1024x768.size a)
    (pay : Vec F S512x512 .bf16 → Vec F S512x768 .bf16 → Vec F S512x768 .f32) (hpay : pay (ctxOf I b) I.wo = blockOf I b)
    {a1 : ctM.view.LoadsAt (Rect.unit (s := S512x512) offc S512x512.size hc).toLoadRect} {a2 : woM.view.LoadsAt (Rect.unit (s := S512x768) offw S512x768.size hw).toLoadRect}
    {a3 : outM.view.LoadsAt (rBl off h).toLoadRect}
    {a4 : (outM.access (rBl off h)).Stores Finset.univ} {a5 : (Finset.univ : Finset (rBl off h).shape.Idx) = Finset.univ ∨ ∀ a, (rBl off h).stride a = 1}
    {α : Type} {Q : α → sProp 𝕄} {k : PUnit → Prog (TpuEff nD τ sig (Elt F) Λ₀ .tc) α} :
    iprop(ctPt c I b 8 ∗ woPt c I ∗ oPt c I n)
      ⊢ iprop(((∃ f : (cc0_scratch0 : Ref sig .tc).ty.Contents (Elt F), (c : Thread nD τ).loc cc0_scratch0 ↦{fullShare} f) ∗ woPt c I ∗ oPt c I m -∗ WP c (k ⟨⟩) Q)
        -∗ WP c (.op (.load ctM (Rect.unit (s := S512x512) offc S512x512.size hc).toLoadRect a1) fun (cc : Vec F S512x512 .bf16) =>
            .op (.load woM (Rect.unit (s := S512x768) offw S512x768.size hw).toLoadRect a2) fun (ww : Vec F S512x768 .bf16) =>
            .op (.load outM (rBl off h).toLoadRect a3) fun _ => .op (.store outM (rBl off h) (pay cc ww) Finset.univ a4 a5) k) Q) := by
  subst hn hm hoffc hoffw
  unfold oPt
  iintro ⟨Hc, Hw, ⟨%f, %hf, Ho⟩⟩ K
  ihave Hc := ctPt_full c I b $$ Hc
  iapply (wp_load 𝒱₀ (c : Thread nD τ) none Set.univ (m := ctM) (S := Finset.univ) (Finset.subset_univ _)) $$ Hc
  iintro Hc
  rw [read_ct _ hc]
  iapply (wp_load 𝒱₀ (c : Thread nD τ) none Set.univ (m := woM) (S := Finset.univ) (Finset.subset_univ _)) $$ Hw
  iintro Hw
  rw [read_wo _ hw]
  iapply (wp_load 𝒱₀ (c : Thread nD τ) none Set.univ (m := outM) (S := Finset.univ) (Finset.subset_univ _)) $$ Ho
  iintro Ho
  iapply (wp_store 𝒱₀ (c : Thread nD τ) none Set.univ (m := outM) (r := rBl off h) (Mk := Finset.univ) (S := Finset.univ) (Finset.subset_univ _)) $$ Ho
  iintro Ho
  iapply K
  isplitl [Hc]; · iexists _; iexact Hc
  isplitl [Hw]; · iexact Hw
  iexists _
  isplitr
  rotate_left
  · iexact Ho
  · ipureintro
    show ∀ i : S1024x768.Idx, _ → (outM.access (rBl off h)).write (Elt F) f (pay (ctxOf I b) I.wo) Finset.univ i = _
    rw [hpay]
    exact write_block I b off hoff h f hf

theorem oPt_zero (c : Dev nD) (I : Ins F) (f : Part F) : (outPt c f : sProp 𝕄) ⊢ oPt c I 0 := by
  unfold oPt
  iintro H
  iexists f
  isplitr
  · ipureintro; intro i hi; exact absurd hi (Nat.not_lt_zero _)
  · iexact H

/-- Both blocks written: the output holds the device's partial result. -/
theorem oPt_full (c : Dev nD) (I : Ins F) : (oPt c I 2 : sProp 𝕄) ⊢ outPt c (partOf I) := by
  unfold oPt
  iintro ⟨%f, %hf, H⟩
  have : f = partOf I := funext fun i => hf i (by have : (i 0).val < 1024 := (i 0).isLt; omega)
  subst this
  iexact H

/-- The loads of one batch entry's activations and of the query projection. -/
theorem wp_queries (c : Dev nD) (I : Ins F) (b : Fin 2) (off : Fin 3 → ℕ) (hoff : off = ![b.val, 0, 0]) (h : ∀ a, off a + S1x512x768.size a ≤ S2x512x768.size a)
    (offw : Fin 2 → ℕ) (hoffw : offw = ![0, 0]) (hw : ∀ a, offw a + S768x512.size a ≤ S768x512.size a)
    {a1 : xM.view.LoadsAt (Rect.unit (s := S2x512x768) off S1x512x768.size h).toLoadRect} {a2 : wqM.view.LoadsAt (Rect.unit (s := S768x512) offw S768x512.size hw).toLoadRect}
    {α : Type} {Q : α → sProp 𝕄} {k : Vec F S1x512x768 .bf16 → Vec F S768x512 .bf16 → Prog (TpuEff nD τ sig (Elt F) Λ₀ .tc) α} :
    iprop(xPt c I ∗ wqPt c I)
      ⊢ iprop((xPt c I ∗ wqPt c I -∗ WP c (k (xRd I b) I.wq) Q)
        -∗ WP c (.op (.load xM (Rect.unit (s := S2x512x768) off S1x512x768.size h).toLoadRect a1) fun (x : Vec F S1x512x768 .bf16) =>
            .op (.load wqM (Rect.unit (s := S768x512) offw S768x512.size hw).toLoadRect a2) fun (w : Vec F S768x512 .bf16) => k x w) Q) := by
  subst hoffw
  iintro ⟨Hx, Hw⟩ K
  iapply (wp_load 𝒱₀ (c : Thread nD τ) none Set.univ (m := xM) (S := Finset.univ) (Finset.subset_univ _)) $$ Hx
  iintro Hx
  rw [read_x I off b hoff h]
  iapply (wp_load 𝒱₀ (c : Thread nD τ) none Set.univ (m := wqM) (S := Finset.univ) (Finset.subset_univ _)) $$ Hw
  iintro Hw
  rw [read_wq _ hw]
  iapply K
  isplitl [Hx]; · iexact Hx
  iexact Hw

end Cert.KernelIdeal.Exchange
-- ==== Proof.Body.lean ====
module

public import proofs.«01_k».proof.Proof.Attn

@[expose] public section

/-!
# The kernel's body on one device

The barrier with the four neighbours of the hypercube, the attention, and the eight steps of the exchange, run once
for a device that is not named: every view it takes depends on the device only through the printed functions of the
device, which the first lemmas evaluate.
-/

set_option maxRecDepth 65536

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

variable {F : FTy → Type} [FloatOps F]

local notation "𝕄" => MT nD τ sig Unit (Elt F) ℕ UU ℕ

/-! ## The printed functions of the device -/

section Views

variable (c : Dev nD)

theorem dev1 : (⟨k0_dev1 c, k0_dev1_lt c⟩ : Dev nD) = flip 0 c := by revert c; decide +kernel
theorem dev2 : (⟨k0_dev2 c, k0_dev2_lt c⟩ : Dev nD) = flip 1 c := by revert c; decide +kernel
theorem dev3 : (⟨k0_dev3 c, k0_dev3_lt c⟩ : Dev nD) = flip 2 c := by revert c; decide +kernel
theorem dev4 : (⟨k0_dev4 c, k0_dev4_lt c⟩ : Dev nD) = flip 3 c := by revert c; decide +kernel
theorem dev5 : (⟨k0_dev5 c, k0_dev5_lt c⟩ : Dev nD) = pt 0 c := by revert c; decide +kernel
theorem dev6 : (⟨k0_dev6 c, k0_dev6_lt c⟩ : Dev nD) = pt 1 c := by revert c; decide +kernel
theorem dev7 : (⟨k0_dev7 c, k0_dev7_lt c⟩ : Dev nD) = pt 2 c := by revert c; decide +kernel
theorem dev8 : (⟨k0_dev8 c, k0_dev8_lt c⟩ : Dev nD) = pt 3 c := by revert c; decide +kernel
theorem dev9 : (⟨k0_dev9 c, k0_dev9_lt c⟩ : Dev nD) = pt 4 c := by revert c; decide +kernel
theorem dev10 : (⟨k0_dev10 c, k0_dev10_lt c⟩ : Dev nD) = pt 5 c := by revert c; decide +kernel
theorem dev11 : (⟨k0_dev11 c, k0_dev11_lt c⟩ : Dev nD) = pt 6 c := by revert c; decide +kernel
theorem dev12 : (⟨k0_dev12 c, k0_dev12_lt c⟩ : Dev nD) = pt 7 c := by revert c; decide +kernel

theorem off1 : k0_off1 c = ![offS 0 c, 0] := by revert c; decide +kernel
theorem off2 : k0_off2 c = ![offD 0 c, 0] := by revert c; decide +kernel
theorem off3 : k0_off3 c = ![offS 1 c, 0] := by revert c; decide +kernel
theorem off4 : k0_off4 c = ![offD 1 c, 0] := by revert c; decide +kernel
theorem off5 : k0_off5 c = ![offS 2 c, 0] := by revert c; decide +kernel
theorem off6 : k0_off6 c = ![offD 2 c, 0] := by revert c; decide +kernel
theorem off7 : k0_off7 c = ![offS 3 c, 0] := by revert c; decide +kernel
theorem off8 : k0_off8 c = ![offD 3 c, 0] := by revert c; decide +kernel
theorem off9 : k0_off9 c = ![offS 4 c, 0] := by revert c; decide +kernel
theorem off10 : k0_off10 c = ![offD 4 c, 0] := by revert c; decide +kernel
theorem off11 : k0_off11 c = ![offS 5 c, 0] := by revert c; decide +kernel
theorem off12 : k0_off12 c = ![offD 5 c, 0] := by revert c; decide +kernel
theorem off13 : k0_off13 c = ![offS 6 c, 0] := by revert c; decide +kernel
theorem off14 : k0_off14 c = ![offD 6 c, 0] := by revert c; decide +kernel
theorem off15 : k0_off15 c = ![offS 7 c, 0] := by revert c; decide +kernel
theorem off16 : k0_off16 c = ![offD 7 c, 0] := by revert c; decide +kernel

end Views

/-! ## The barrier -/

variable (P : Dev nD → Part F)

/-- What a device brings to its signal along bit `k`: the partner's barrier cell and the token of the duty it pays
    there. -/
def sigIn (k : Fin 4) (c : Dev nD) : sProp 𝕄 :=
  iprop(∃ κ : ℕ, cellInv ER (rd P) κ (barCell (flip k c)) ∗ reached ER (barCell (flip k c)) 0 ∗ dutyTok ER (barCell (flip k c)) 0 k
    ∗ reached ER (recvCell (early k) c) 0 ∗ reached ER (recvCell (late k) c) 0)
/-- What it brings to the wait on its own barrier cell. -/
def barIn (c : Dev nD) : sProp 𝕄 :=
  iprop(∃ κ : ℕ, cellInv ER (rd P) κ (barCell c) ∗ atPos ER (barCell c) 0 ∅ 0 ∗ cred (tallyAt (barCell c) () 4))
/-- A landing slot of its own. -/
def ownSlot (s : Fin 8) (c : Dev nD) : sProp 𝕄 := iprop(∃ f : Comm F, slotPt s c f)

/-- The signal along bit `k`: the device hands the neighbour its two landing slots for it. -/
theorem wp_signal_bit (k : Fin 4) (c p : Dev nD) (hp : p = flip k c) (sm : Sem sig) (hsm : sm = barrier0) (z : ℤ) (hz : z = ((1 : ℕ) : ℤ))
    {α : Type} {Q : α → sProp 𝕄} {K : PUnit → Prog (TpuEff nD τ sig (Elt F) Λ₀ .tc) α} :
    iprop(sigIn P k c ∗ ownSlot (early k) c ∗ ownSlot (late k) c ∗ ∃ W : Waits sig Unit, owes (c : Thread nD τ) (Os 0 c + Ob k.val c) W)
      ⊢ iprop(((∃ W : Waits sig Unit, owes (c : Thread nD τ) (Os 0 c + Ob (k.val + 1) c) W) -∗ WP c (K ⟨⟩) Q)
        -∗ WP c (.op (.semSignal (p, .tc) sm z) K) Q) := by
  subst hp hsm hz
  unfold sigIn ownSlot
  iintro ⟨⟨%κ, #HI, #Hr, Ht, #HrE, #HrL⟩, HE, HL, ⟨%W, HO⟩⟩ HK
  iapply (Rounds.wp_signal 𝒱₀ ER (rd P) (c : Thread nD τ) none (dst := (flip k c : Thread nD τ)) (sem := barrier0) (r := 0) (d := k) (k' := 1) (κ := κ)
      (by rw [duties_bar]; exact Finset.mem_univ _) (amount_bar P (flip k c) k) () (O₀ := Os 0 c + Ob k.val c) (Os 0 c + Ob (k.val + 1) c)
      (by rw [Ob_succ, add_assoc]) (W := W)) $$ [HO Ht HE HL]
  · isplitr; · iexact HI
    isplitl [HO]; · iexact HO
    isplitl [Ht]; · iexact Ht
    isplitl [HE HL]
    · rw [payload_bar]; unfold barPay; rw [flip_flip]
      isplitl [HE]
      · isplitl [HE]; · iexact HE
        iexact HrE
      isplitl [HL]; · iexact HL
      iexact HrL
    iexact Hr
  iintro HO
  iapply HK
  iexists _; iexact HO

/-- What the wait brings for bit `k`: the neighbour's two landing slots. -/
theorem slots_of_bar (k : Fin 4) (c : Dev nD) : (barPay k c : sProp 𝕄) ⊢ iprop(slotIn (early k) c ∗ slotIn (late k) c) := by
  unfold barPay slotIn
  rw [pt_early, pt_late]

/-- The wait on the barrier: the landing slots of all eight steps come with it. -/
theorem wp_barrier (c : Dev nD) (sm : Sem sig) (hsm : sm = barrier0) (z : ℤ) (hz : z = ((4 : ℕ) : ℤ))
    {α : Type} {Q : α → sProp 𝕄} {K : PUnit → Prog (TpuEff nD τ sig (Elt F) Λ₀ .tc) α} :
    iprop(levAts L lv ∗ barIn P c ∗ ∃ W : Waits sig Unit, owes (c : Thread nD τ) (Os 0 c + Ob 4 c) W)
      ⊢ iprop((((∃ W : Waits sig Unit, owes (c : Thread nD τ) (Os 0 c) W) ∗ semVal (barCell c) 0
            ∗ (slotIn 0 c ∗ slotIn 7 c) ∗ (slotIn 1 c ∗ slotIn 6 c) ∗ (slotIn 2 c ∗ slotIn 5 c) ∗ (slotIn 3 c ∗ slotIn 4 c)) -∗ WP c (K ⟨⟩) Q)
        -∗ WP c (.op (.semWait sm z) K) Q) := by
  subst hsm hz
  rw [Ob_last, add_zero]
  unfold barIn
  iintro ⟨#Hlev, ⟨%κ, #HI, Hat, Hc⟩, ⟨%W, HO⟩⟩ HK
  iapply (Rounds.wp_wait_rest_token 𝒱₀ ER (rd P) (c : Thread nD τ) none (κ := κ)
      (wpE_semWait_eq 𝒱₀ (c : Thread nD τ) none Set.univ) (Set.mem_univ _) () (O := Os 0 c) (W := W) (R := 0) (m := 0) (T := ∅)
      (by rw [Nat.zero_add, expect_bar])) $$ [Hc HO Hat]
  · isplitr; · iexact HI
    isplitl [Hc]; · iexact Hc
    isplitl [HO]; · iexact HO
    isplitr; · iapply (mayWait_bar c); iexact Hlev
    iexact Hat
  iintro ⟨HO, Hat, -, Hpay⟩
  ihave Hp := (Entails.of_eq (rest_bar P c)) $$ Hpay
  imod (Rounds.cell_close ER (rd P) (Set.mem_univ κ) id (duties_later P (barCell c))) $$ [Hat] with Hz
  · isplitr; · iexact HI
    iexact Hat
  iapply HK
  icases Hp with ⟨H0, H1, H2, H3⟩
  isplitl [HO]; · iexists _; iexact HO
  isplitl [Hz]; · iexact Hz
  isplitl [H0]; · iapply (slots_of_bar 0 c); iexact H0
  isplitl [H1]; · iapply (slots_of_bar 1 c); iexact H1
  isplitl [H2]; · iapply (slots_of_bar 2 c); iexact H2
  iapply (slots_of_bar 3 c); iexact H3

/-! ## The body -/

/-- The kernel's body over the buffers of the launch. -/
abbrev body : Prog (TpuEff nD τ sig (Elt F) Λ₀ .tc) PUnit :=
  cc0_body (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _) (Memref.whole cc0_stg5_0) (Memref.isWhole_whole _)
    (Memref.whole cc0_scratch0) (Memref.isWhole_whole _) (Memref.whole cc0_scratch1) (Memref.isWhole_whole _) (Memref.whole cc0_scratch2) (Memref.isWhole_whole _) cc0_scratch3 cc0_scratch4

theorem bigSep4 (G : Fin 4 → sProp 𝕄) : bigSep Finset.univ G = iprop(G 0 ∗ G 1 ∗ G 2 ∗ G 3) := by
  rw [bigSep_univ_eq_bigSepL [0, 1, 2, 3] (by decide) (by decide)]; rfl
theorem bigSep8 (G : Fin 8 → sProp 𝕄) : bigSep Finset.univ G = iprop(G 0 ∗ G 1 ∗ G 2 ∗ G 3 ∗ G 4 ∗ G 5 ∗ G 6 ∗ G 7) := by
  rw [bigSep_univ_eq_bigSepL [0, 1, 2, 3, 4, 5, 6, 7] (by decide) (by decide)]; rfl

/-- The five inputs. -/
def insPt (c : Dev nD) (I : Ins F) : sProp 𝕄 := iprop(xPt c I ∗ wqPt c I ∗ kPt c I ∗ vPt c I ∗ woPt c I)
/-- The context buffer, whatever it holds, -/
def anyCtx (c : Dev nD) : sProp 𝕄 := iprop(∃ f : (cc0_scratch0 : Ref sig .tc).ty.Contents (Elt F), (c : Thread nD τ).loc cc0_scratch0 ↦{fullShare} f)
/-- and the sending buffer. -/
def anySb (c : Dev nD) : sProp 𝕄 := iprop(∃ f : (cc0_scratch1 : Ref sig .tc).ty.Contents (Elt F), sbPt c f)

theorem heads_start (c : Dev nD) (I : Ins F) (b : Fin 2) : (iprop((kPt c I ∗ vPt c I) ∗ anyCtx c) : sProp 𝕄) ⊢ heads c I b 0 := by
  unfold heads anyCtx
  iintro ⟨⟨Hk, Hv⟩, ⟨%f, Hc⟩⟩
  isplitl [Hk]; · iexact Hk
  isplitl [Hv]; · iexact Hv
  iapply (ctPt_zero c I b f); iexact Hc

/-- The state before the first step: the device's own partial result in the output. -/
theorem at_start (c : Dev nD) (I : Ins F) (hP : P c = partOf I) :
    (iprop(outPt c (partOf I) ∗ (∃ f : (cc0_scratch1 : Ref sig .tc).ty.Contents (Elt F), sbPt c f) ∗ ∃ W : Waits sig Unit, owes (c : Thread nD τ) (Os 0 c) W) : sProp 𝕄) ⊢ at_ P 0 c := by
  unfold at_ outSt
  rw [hP]

/-- What the body starts from, -/
def bodyIn (c : Dev nD) (I : Ins F) : sProp 𝕄 :=
  iprop(levAts L lv ∗ barIn P c ∗ bigSep Finset.univ (fun k => sigIn P k c) ∗ bigSep Finset.univ (fun s => stepIn P s c)
    ∗ insPt c I ∗ anyCtx c ∗ anySb c ∗ bigSep Finset.univ (fun s => ownSlot s c) ∗ (∃ f : Part F, outPt c f)
    ∗ ∃ W : Waits sig Unit, owes (c : Thread nD τ) (O₀ c) W)
/-- and what it leaves: the output holds the result of the exchange, the counters are zero. -/
def bodyOut (c : Dev nD) (I : Ins F) : sProp 𝕄 :=
  iprop(semVal (barCell c) 0 ∗ bigSep Finset.univ (fun s => stepOut s c) ∗ insPt c I ∗ anyCtx c ∗ at_ P 8 c)

set_option maxHeartbeats 4000000 in
/-- The body: started with the launch's dealings and its inputs, it ends with the exchange's result. -/
theorem wp_body (c : Dev nD) (I : Ins F) (hP : P c = partOf I) (Q : PUnit → sProp 𝕄) :
    iprop(bodyIn P c I ∗ (bodyOut P c I -∗ Q ⟨⟩)) ⊢ WP c body Q := by
  unfold body
  simp only [cc0_body_eq_skeleton]
  unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel
  simp only [semSignalWord, semWaitWord, Prog.lift, Prog.bind_op, Prog.bind_ret, Prog.pure_eq_ret, wp_deviceId]
  unfold bodyIn insPt anySb
  rw [bigSep4, bigSep8, bigSep8]
  iintro ⟨⟨#Hlev, Hbar, ⟨Hg0, Hg1, Hg2, Hg3⟩, ⟨Hi0, Hi1, Hi2, Hi3, Hi4, Hi5, Hi6, Hi7⟩, ⟨Hx, Hwq, Hk, Hv, Hwo⟩, Hct, Hsb,
    ⟨Hs0, Hs1, Hs2, Hs3, Hs4, Hs5, Hs6, Hs7⟩, ⟨%f0, Ho⟩, HO⟩, HQ⟩
  unfold O₀
  iapply (wp_signal_bit P 0 c _ (dev1 c) _ rfl (1#32).toInt (by decide)) $$ [Hg0 Hs0 Hs7 HO]
  · isplitl [Hg0]; · iexact Hg0
    isplitl [Hs0]; · iexact Hs0
    isplitl [Hs7]; · iexact Hs7
    iexact HO
  iintro HO
  iapply (wp_signal_bit P 1 c _ (dev2 c) _ rfl (1#32).toInt (by decide)) $$ [Hg1 Hs1 Hs6 HO]
  · isplitl [Hg1]; · iexact Hg1
    isplitl [Hs1]; · iexact Hs1
    isplitl [Hs6]; · iexact Hs6
    iexact HO
  iintro HO
  iapply (wp_signal_bit P 2 c _ (dev3 c) _ rfl (1#32).toInt (by decide)) $$ [Hg2 Hs2 Hs5 HO]
  · isplitl [Hg2]; · iexact Hg2
    isplitl [Hs2]; · iexact Hs2
    isplitl [Hs5]; · iexact Hs5
    iexact HO
  iintro HO
  iapply (wp_signal_bit P 3 c _ (dev4 c) _ rfl (1#32).toInt (by decide)) $$ [Hg3 Hs3 Hs4 HO]
  · isplitl [Hg3]; · iexact Hg3
    isplitl [Hs3]; · iexact Hs3
    isplitl [Hs4]; · iexact Hs4
    iexact HO
  iintro HO
  iapply (wp_barrier P c _ rfl (4#32).toInt (by decide)) $$ [Hbar HO]
  · isplitr; · iexact Hlev
    isplitl [Hbar]; · iexact Hbar
    iexact HO
  iintro ⟨HO, Hzb, ⟨Hs0, Hs7⟩, ⟨Hs1, Hs6⟩, ⟨Hs2, Hs5⟩, ⟨Hs3, Hs4⟩⟩
  icombine Hk Hv as Hkv
  ihave Ho := (oPt_zero c I f0) $$ Ho
  -- batch entry 0
  iapply (wp_queries c I 0 _ rfl _ _ rfl _) $$ [Hx Hwq]
  · isplitl [Hx] <;> iassumption
  iintro ⟨Hx, Hwq⟩
  ihave Hh := (heads_start c I 0) $$ [Hkv Hct]
  · isplitl [Hkv]; · iexact Hkv
    unfold anyCtx; iexact Hct
  iapply (wp_head c I 0 0 0 1 rfl rfl _ rfl _ _ rfl _ (fun k v => k0_pay4 k0_pay2 (xRd I 0) I.wq k v) rfl) $$ Hh; iintro Hh
  iapply (wp_head c I 0 1 1 2 rfl rfl _ rfl _ _ rfl _ (fun k v => k0_pay7 k0_pay2 (k0_pay5 (xRd I 0) I.wq) (k0_pay6 k) v) rfl) $$ Hh; iintro Hh
  iapply (wp_head c I 0 2 2 3 rfl rfl _ rfl _ _ rfl _ (fun k v => k0_pay10 (k0_pay8 v) (k0_pay9 k0_pay2 (k0_pay3 (xRd I 0) I.wq) k)) rfl) $$ Hh; iintro Hh
  iapply (wp_head c I 0 3 3 4 rfl rfl _ rfl _ _ rfl _ (fun k v => k0_pay11 k0_pay2 (k0_pay3 (xRd I 0) I.wq) k v) rfl) $$ Hh; iintro Hh
  iapply (wp_head c I 0 4 4 5 rfl rfl _ rfl _ _ rfl _ (fun k v => k0_pay13 k0_pay2 (k0_pay12 (k0_pay3 (xRd I 0) I.wq)) k v) rfl) $$ Hh; iintro Hh
  iapply (wp_head c I 0 5 5 6 rfl rfl _ rfl _ _ rfl _ (fun k v => k0_pay16 (k0_pay14 v) (k0_pay15 k0_pay2 (k0_pay3 (xRd I 0) I.wq) k)) rfl) $$ Hh; iintro Hh
  iapply (wp_head c I 0 6 6 7 rfl rfl _ rfl _ _ rfl _ (fun k v => k0_pay18 (k0_pay17 k0_pay2 (k0_pay3 (xRd I 0) I.wq) k v)) rfl) $$ Hh; iintro Hh
  iapply (wp_head c I 0 7 7 8 rfl rfl _ rfl _ _ rfl _ (fun k v => k0_pay19 k0_pay2 (k0_pay3 (xRd I 0) I.wq) k v) rfl) $$ Hh; iintro Hh
  unfold heads
  icases Hh with ⟨Hk, Hv, Hct⟩
  iapply (wp_block c I 0 0 1 rfl rfl _ rfl _ _ rfl _ _ rfl _ (fun x w => k0_pay20 x w) rfl) $$ [Hct Hwo Ho]
  · isplitl [Hct]; · iexact Hct
    isplitl [Hwo]; · iexact Hwo
    iexact Ho
  iintro ⟨Hct, Hwo, Ho⟩
  icombine Hk Hv as Hkv
  -- batch entry 1
  iapply (wp_queries c I 1 _ rfl _ _ rfl _) $$ [Hx Hwq]
  · isplitl [Hx] <;> iassumption
  iintro ⟨Hx, Hwq⟩
  ihave Hh := (heads_start c I 1) $$ [Hkv Hct]
  · isplitl [Hkv]; · iexact Hkv
    unfold anyCtx; iexact Hct
  iapply (wp_head c I 1 0 0 1 rfl rfl _ rfl _ _ rfl _ (fun k v => k0_pay22 k0_pay2 (xRd I 1) I.wq k v) rfl) $$ Hh; iintro Hh
  iapply (wp_head c I 1 1 1 2 rfl rfl _ rfl _ _ rfl _ (fun k v => k0_pay25 k0_pay2 (k0_pay23 (xRd I 1) I.wq) (k0_pay24 k) v) rfl) $$ Hh; iintro Hh
  iapply (wp_head c I 1 2 2 3 rfl rfl _ rfl _ _ rfl _ (fun k v => k0_pay28 (k0_pay26 v) (k0_pay27 k0_pay2 (k0_pay21 (xRd I 1) I.wq) k)) rfl) $$ Hh; iintro Hh
  iapply (wp_head c I 1 3 3 4 rfl rfl _ rfl _ _ rfl _ (fun k v => k0_pay29 k0_pay2 (k0_pay21 (xRd I 1) I.wq) k v) rfl) $$ Hh; iintro Hh
  iapply (wp_head c I 1 4 4 5 rfl rfl _ rfl _ _ rfl _ (fun k v => k0_pay31 k0_pay2 (k0_pay30 (k0_pay21 (xRd I 1) I.wq)) k v) rfl) $$ Hh; iintro Hh
  iapply (wp_head c I 1 5 5 6 rfl rfl _ rfl _ _ rfl _ (fun k v => k0_pay35 k0_pay2 (k0_pay32 v) (k0_pay33 (k0_pay21 (xRd I 1) I.wq) k) k0_pay34) rfl) $$ Hh; iintro Hh
  iapply (wp_head c I 1 6 6 7 rfl rfl _ rfl _ _ rfl _ (fun k v => k0_pay37 (k0_pay36 k0_pay2 (k0_pay21 (xRd I 1) I.wq) k v)) rfl) $$ Hh; iintro Hh
  iapply (wp_head c I 1 7 7 8 rfl rfl _ rfl _ _ rfl _ (fun k v => k0_pay38 k0_pay2 (k0_pay21 (xRd I 1) I.wq) k v) rfl) $$ Hh; iintro Hh
  unfold heads
  icases Hh with ⟨Hk, Hv, Hct⟩
  iapply (wp_block c I 1 1 2 rfl rfl _ rfl _ _ rfl _ _ rfl _ (fun x w => k0_pay39 x w) rfl) $$ [Hct Hwo Ho]
  · isplitl [Hct]; · iexact Hct
    isplitl [Hwo]; · iexact Hwo
    iexact Ho
  iintro ⟨Hct, Hwo, Ho⟩
  icombine Hk Hv as Hkv
  ihave Ho := (oPt_full c I) $$ Ho
  -- the exchange
  ihave Hat := (at_start P c I hP) $$ [Ho Hsb HO]
  · isplitl [Ho]; · iexact Ho
    isplitl [Hsb] <;> iassumption
  iapply (wp_halve (n := 512) P 0 c _ (by decide) (dev5 c) rfl _ _ (off1 c) (off2 c) _ rfl _ _ _ _ squeezes_S1x512x768_S512x768 _ _ rfl rfl
      k0_pay40 (fun _ x => congrFun (pay_narrow (n := 512) _ _) x) k0_pay41 (fun _ _ x => pay_sum (n := 512) _ _ _ x)) $$ [Hat Hi0 Hs0]
  · isplitr; · iexact Hlev
    isplitl [Hat]; · iexact Hat
    isplitl [Hi0]; · iexact Hi0
    iexact Hs0
  iintro ⟨Hat, Hz0⟩
  iapply (wp_halve (n := 256) P 1 c _ (by decide) (dev6 c) rfl _ _ (off3 c) (off4 c) _ rfl _ _ _ _ squeezes_S1x256x768_S256x768 _ _ rfl rfl
      k0_pay42 (fun _ x => congrFun (pay_narrow (n := 256) _ _) x) k0_pay43 (fun _ _ x => pay_sum (n := 256) _ _ _ x)) $$ [Hat Hi1 Hs1]
  · isplitr; · iexact Hlev
    isplitl [Hat]; · iexact Hat
    isplitl [Hi1]; · iexact Hi1
    iexact Hs1
  iintro ⟨Hat, Hz1⟩
  iapply (wp_halve (n := 128) P 2 c _ (by decide) (dev7 c) rfl _ _ (off5 c) (off6 c) _ rfl _ _ _ _ squeezes_S1x128x768_S128x768 _ _ rfl rfl
      k0_pay44 (fun _ x => congrFun (pay_narrow (n := 128) _ _) x) k0_pay45 (fun _ _ x => pay_sum (n := 128) _ _ _ x)) $$ [Hat Hi2 Hs2]
  · isplitr; · iexact Hlev
    isplitl [Hat]; · iexact Hat
    isplitl [Hi2]; · iexact Hi2
    iexact Hs2
  iintro ⟨Hat, Hz2⟩
  iapply (wp_halve (n := 64) P 3 c _ (by decide) (dev8 c) rfl _ _ (off7 c) (off8 c) _ rfl _ _ _ _ squeezes_S1x64x768_S64x768 _ _ rfl rfl
      k0_pay46 (fun _ x => congrFun (pay_narrow (n := 64) _ _) x) k0_pay47 (fun _ _ x => pay_sum (n := 64) _ _ _ x)) $$ [Hat Hi3 Hs3]
  · isplitr; · iexact Hlev
    isplitl [Hat]; · iexact Hat
    isplitl [Hi3]; · iexact Hi3
    iexact Hs3
  iintro ⟨Hat, Hz3⟩
  iapply (wp_double (n := 64) P 4 c _ (by decide) (dev9 c) rfl _ _ (off9 c) (off10 c) _ rfl _ _ _ _ squeezes_S1x64x768_S64x768 _ _ rfl rfl
      k0_pay48 (fun _ x => congrFun (pay_narrow (n := 64) _ _) x) k0_pay49 (fun _ x => pay_copy (n := 64) _ _ x)) $$ [Hat Hi4 Hs4]
  · isplitr; · iexact Hlev
    isplitl [Hat]; · iexact Hat
    isplitl [Hi4]; · iexact Hi4
    iexact Hs4
  iintro ⟨Hat, Hz4⟩
  iapply (wp_double (n := 128) P 5 c _ (by decide) (dev10 c) rfl _ _ (off11 c) (off12 c) _ rfl _ _ _ _ squeezes_S1x128x768_S128x768 _ _ rfl rfl
      k0_pay50 (fun _ x => congrFun (pay_narrow (n := 128) _ _) x) k0_pay51 (fun _ x => pay_copy (n := 128) _ _ x)) $$ [Hat Hi5 Hs5]
  · isplitr; · iexact Hlev
    isplitl [Hat]; · iexact Hat
    isplitl [Hi5]; · iexact Hi5
    iexact Hs5
  iintro ⟨Hat, Hz5⟩
  iapply (wp_double (n := 256) P 6 c _ (by decide) (dev11 c) rfl _ _ (off13 c) (off14 c) _ rfl _ _ _ _ squeezes_S1x256x768_S256x768 _ _ rfl rfl
      k0_pay52 (fun _ x => congrFun (pay_narrow (n := 256) _ _) x) k0_pay53 (fun _ x => pay_copy (n := 256) _ _ x)) $$ [Hat Hi6 Hs6]
  · isplitr; · iexact Hlev
    isplitl [Hat]; · iexact Hat
    isplitl [Hi6]; · iexact Hi6
    iexact Hs6
  iintro ⟨Hat, Hz6⟩
  iapply (wp_double (n := 512) P 7 c _ (by decide) (dev12 c) rfl _ _ (off15 c) (off16 c) _ rfl _ _ _ _ squeezes_S1x512x768_S512x768 _ _ rfl rfl
      k0_pay54 (fun _ x => congrFun (pay_narrow (n := 512) _ _) x) k0_pay1 (fun _ x => pay_copy (n := 512) _ _ x)) $$ [Hat Hi7 Hs7]
  · isplitr; · iexact Hlev
    isplitl [Hat]; · iexact Hat
    isplitl [Hi7]; · iexact Hi7
    iexact Hs7
  iintro ⟨Hat, Hz7⟩
  unfold WP
  rw [wp_ret]; imodintro
  iapply HQ
  unfold bodyOut insPt
  rw [bigSep8]
  icases Hkv with ⟨Hk, Hv⟩
  isplitl [Hzb]; · iexact Hzb
  isplitl [Hz0 Hz1 Hz2 Hz3 Hz4 Hz5 Hz6 Hz7]
  · isplitl [Hz0]; · iexact Hz0
    isplitl [Hz1]; · iexact Hz1
    isplitl [Hz2]; · iexact Hz2
    isplitl [Hz3]; · iexact Hz3
    isplitl [Hz4]; · iexact Hz4
    isplitl [Hz5]; · iexact Hz5
    isplitl [Hz6] <;> iassumption
  isplitl [Hx Hwq Hk Hv Hwo]
  · isplitl [Hx]; · iexact Hx
    isplitl [Hwq]; · iexact Hwq
    isplitl [Hk]; · iexact Hk
    isplitl [Hv] <;> iassumption
  isplitl [Hct]; · unfold anyCtx; iexact Hct
  iexact Hat

end Cert.KernelIdeal.Exchange
-- ==== Proof.Region.lean ====
module

public import proofs.«01_k».proof.Proof.Body
public import proofs.«01_k».proof.Proof.Gen.KernelIdeal.Points
public import Idealize.ShloMosaic.Lib.Pipeline.ValueKit
public import Idealize.ShloMosaic.Lib.Pipeline.RegionTalk

@[expose] public section

/-!
# The kernel's call as a region of the program

The body of `wp_body` as the one point of the call: what the staging buffers hold before and after it, the landing
buffer cut into the eight slots of the exchange and put together again, the counters opened at entry and returned at
zero, and the buffers of the host program before and after the call.
-/

set_option maxRecDepth 16384

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## The contents of the host's buffers around the call -/

/-- What device `c`'s call is given: its five operands. -/
def insOf (c : Dev nD) : Ins F where
  x := V1 m c main_v17
  wq := V1 m c main_v18
  k := V1 m c main_v10
  v := V1 m c main_v16
  wo := V1 m c main_v19
/-- Every device's partial result. -/
def parts (c : Dev nD) : Part F := partOf (insOf m c)
/-- What the call leaves in the host's result buffer: the end of the exchange. -/
def outs : Outs (F := F) := fun _ r c => Function.update (V0 m c) main_v20 (outSt (parts m) 8 c) r
theorem outs_out (c : Dev nD) : outs m 2 main_v20 c = outSt (parts m) 8 c := Function.update_self ..

/-! ## The landing buffer as slots -/

theorem slotSet_disjoint : ∀ s ∈ (Finset.univ : Finset (Fin 8)), ∀ t ∈ (Finset.univ : Finset (Fin 8)), s ≠ t → Disjoint (slotSet s) (slotSet t) := by
  intro s _ t _ h
  rw [Finset.disjoint_left]
  intro i hs ht
  exact h (Fin.ext ((Finset.mem_filter.mp hs).2.1.symm.trans (Finset.mem_filter.mp ht).2.1))

/-- The elements of the landing buffer that some step uses. -/
def slotsSet : Finset S8x512x768.Idx := Finset.univ.biUnion slotSet

/-- The landing buffer, whatever it holds, -/
def anyComm (c : Dev nD) : sProp 𝕄 := iprop(∃ f : Comm F, (c : Thread nD τ).loc cc0_scratch2 ↦{fullShare} f)
/-- and the part of it that no step uses. -/
def commRest (c : Dev nD) : sProp 𝕄 := iprop(∃ f : Comm F, (c : Thread nD τ).loc cc0_scratch2 ↦[Finset.univ \ slotsSet]{fullShare} f)

theorem slot_any (s : Fin 8) (c : Dev nD) (f : Comm F) : (slotPt s c f : sProp 𝕄) ⊢ ownSlot s c := by
  unfold ownSlot
  iintro H; iexists f; iexact H

theorem comm_split (c : Dev nD) : (anyComm c : sProp 𝕄) ⊢ iprop(bigSep Finset.univ (fun s => ownSlot s c) ∗ commRest c) := by
  unfold anyComm commRest
  iintro ⟨%f, H⟩
  ihave H' := (pointsTo_split_subset (Finset.subset_univ slotsSet)).1 $$ H
  icases H' with ⟨H1, H2⟩
  isplitl [H1]
  · have h : ((c : Thread nD τ).loc cc0_scratch2 ↦[slotsSet]{fullShare} f : sProp 𝕄) ⊢ bigSep Finset.univ (fun s => ownSlot s c) := by
      unfold slotsSet
      rw [pointsTo_biUnion _ _ slotSet_disjoint]
      exact bigSep_mono fun s _ => slot_any s c f
    iapply h; iexact H1
  iexists f; iexact H2

theorem comm_join (c : Dev nD) : (iprop(bigSep Finset.univ (fun s => iprop(∃ f : Comm F, slotPt s c f)) ∗ commRest c) : sProp 𝕄) ⊢ anyComm c := by
  unfold anyComm commRest
  iintro ⟨H, ⟨%f, Hr⟩⟩
  haveI : Nonempty (Comm F) := ⟨f⟩
  ihave H' := (bigSep_exists_pi (Y := fun _ => Comm F) (Finset.univ : Finset (Fin 8)) (fun s g => (slotPt s c g : sProp 𝕄))) $$ H
  icases H' with ⟨%fs, H⟩
  ihave H' := (pointsTo_biUnion_join (Finset.univ : Finset (Fin 8)) slotSet fs f slotSet_disjoint) $$ H
  icases H' with ⟨%g, -, H⟩
  iexists _
  iapply (pointsTo_join_subset (Finset.subset_univ slotsSet) (g := g) (f := f))
  isplitl [H]; · iexact H
  iexact Hr

/-! ## The proof data of the call -/

/-- The kernel's own counters: the eight of the sends and the eight of the arrivals. -/
abbrev osem : Fin 2 × Fin 8 → SemLoc sig := fun p => if p.1 = 0 then .dma (sendSem p.2) else .dma (recvSem p.2)
theorem osem_facts : Pipeline.OwnSemFacts spec0 osem := by decide

theorem ownSems_eq (c : Dev nD) : (Pipeline.ownSems0 osem c : sProp 𝕄)
    = iprop(bigSep Finset.univ (fun s => semVal (sendCell s c) 0) ∗ bigSep Finset.univ (fun s => semVal (recvCell s c) 0)) := by
  unfold Pipeline.ownSems0
  rw [bigSep_univ_prod, BI.bigSep_fin_two]
  rfl

/-- What the body starts from beside its buffers, -/
def X1 (c : Dev nD) : sProp 𝕄 :=
  iprop(levAts L lv ∗ barIn (parts m) c ∗ bigSep Finset.univ (fun k => sigIn (parts m) k c) ∗ bigSep Finset.univ (fun s => stepIn (parts m) s c))
/-- and the scratch buffers and the generator register. -/
def scr (c : Dev nD) : sProp 𝕄 := iprop(anyCtx c ∗ anySb c ∗ anyComm c ∗ ∃ r, prngReg c r)
/-- What it leaves: every counter at zero. -/
def Y1 (c : Dev nD) : sProp 𝕄 := iprop(semVal (barCell c) 0 ∗ Pipeline.ownSems0 osem c)

/-- The call's proof data. -/
def dat (c : Dev nD) : Dat τ (Elt F) Unit ℕ UU ℕ cfg0 c where
  A w := match w with
    | ⟨0, _⟩ => V1 m c main_v17
    | ⟨1, _⟩ => V1 m c main_v18
    | ⟨2, _⟩ => V1 m c main_v10
    | ⟨3, _⟩ => V1 m c main_v16
    | ⟨4, _⟩ => V1 m c main_v19
    | ⟨5, _⟩ => V1 m c main_v20
  after w _ := match w with
    | ⟨0, _⟩ => (insOf m c).x
    | ⟨1, _⟩ => (insOf m c).wq
    | ⟨2, _⟩ => (insOf m c).k
    | ⟨3, _⟩ => (insOf m c).v
    | ⟨4, _⟩ => (insOf m c).wo
    | ⟨5, _⟩ => outSt (parts m) 8 c
  Φ t := if t.val = 0 then iprop(X1 m c ∗ scr c) else iprop(Y1 c ∗ scr c)
  q _ := fullShare
  owed t := if t.val = 0 then O₀ c else 0

def pdats : (p : Fin 1) → (c : Dev nD) → Dat τ (Elt F) Unit ℕ UU ℕ (cfgs p) c
  | 0 => dat m

theorem owed_zero (c : Dev nD) : (pdats m 0 c).owed 0 = O₀ c := by
  show (if ((0 : Fin (cfg0.N + 1)).val = 0) then O₀ c else 0) = O₀ c; exact if_pos rfl
theorem owed_first (c : Dev nD) : (dat m c).owed t0_0.castSucc = O₀ c := by
  show (if (t0_0.castSucc : Fin (cfg0.N + 1)).val = 0 then O₀ c else 0) = O₀ c; exact if_pos rfl
theorem owed_last (c : Dev nD) : (pdats m 0 c).owed (Fin.last _) = 0 := by
  show (if (Fin.last cfg0.N).val = 0 then O₀ c else 0) = 0
  rw [Fin.val_last, if_neg (by rw [show cfg0.N = 1 from N_0]; decide)]

theorem owesAt_intro {c : Dev nD} (t : Fin (cfg0.N + 1)) (O : CellTallies nD τ sig Unit) (h : (dat m c).owed t = O) (W : Waits sig Unit) :
    (owes (c : Thread nD τ) O W : sProp 𝕄) ⊢ ((dat m c).owesAt () t : sProp 𝕄) := by
  unfold Dat.owesAt Pipeline.owesWithin Dat.bound; rw [h, show (dat m c).recorded t = Set.univ from rfl]
  iintro HO; iexists W; isplitr; · ipureintro; exact fun _ _ => Or.inl trivial
  iexact HO
theorem owesAt_elim {c : Dev nD} (t : Fin (cfg0.N + 1)) (O : CellTallies nD τ sig Unit) (h : (dat m c).owed t = O) :
    ((dat m c).owesAt () t : sProp 𝕄) ⊢ iprop(∃ W, owes (c : Thread nD τ) O W) := by
  unfold Dat.owesAt Pipeline.owesWithin; rw [h]
  iintro ⟨%W, -, HO⟩; iexists W; iexact HO

/-! ## What the staging buffers hold -/

theorem at_zero (n k : ℕ) : 0 * n + 1 * k = k := by omega
theorem before_x (c : Dev nD) (d) : (dat m c).before (0 : Fin 6) t0_0 d = (insOf m c).x := by
  unfold Dat.before; rw [if_pos (fetch0_0 t0_0)]; funext j
  show ((cfg0.win 0).blk t0_0).view.read (Elt F) (V1 m c main_v17) j = V1 m c main_v17 j
  exact (View.read_apply ..).trans (congrArg (V1 m c main_v17) (funext fun a => Fin.ext (at_zero _ (j a).val)))
theorem before_wq (c : Dev nD) (d) : (dat m c).before (1 : Fin 6) t0_0 d = (insOf m c).wq := by
  unfold Dat.before; rw [if_pos (fetch0_1 t0_0)]; funext j
  show ((cfg0.win 1).blk t0_0).view.read (Elt F) (V1 m c main_v18) j = V1 m c main_v18 j
  exact (View.read_apply ..).trans (congrArg (V1 m c main_v18) (funext fun a => Fin.ext (at_zero _ (j a).val)))
theorem before_k (c : Dev nD) (d) : (dat m c).before (2 : Fin 6) t0_0 d = (insOf m c).k := by
  unfold Dat.before; rw [if_pos (fetch0_2 t0_0)]; funext j
  show ((cfg0.win 2).blk t0_0).view.read (Elt F) (V1 m c main_v10) j = V1 m c main_v10 j
  exact (View.read_apply ..).trans (congrArg (V1 m c main_v10) (funext fun a => Fin.ext (at_zero _ (j a).val)))
theorem before_v (c : Dev nD) (d) : (dat m c).before (3 : Fin 6) t0_0 d = (insOf m c).v := by
  unfold Dat.before; rw [if_pos (fetch0_3 t0_0)]; funext j
  show ((cfg0.win 3).blk t0_0).view.read (Elt F) (V1 m c main_v16) j = V1 m c main_v16 j
  exact (View.read_apply ..).trans (congrArg (V1 m c main_v16) (funext fun a => Fin.ext (at_zero _ (j a).val)))
theorem before_wo (c : Dev nD) (d) : (dat m c).before (4 : Fin 6) t0_0 d = (insOf m c).wo := by
  unfold Dat.before; rw [if_pos (fetch0_4 t0_0)]; funext j
  show ((cfg0.win 4).blk t0_0).view.read (Elt F) (V1 m c main_v19) j = V1 m c main_v19 j
  exact (View.read_apply ..).trans (congrArg (V1 m c main_v19) (funext fun a => Fin.ext (at_zero _ (j a).val)))

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ ((c : Thread nD τ).loc b ↦{fullShare} f)) := by
  unfold owns; simp only [Memref.view_whole, View.read_whole, View.set_whole]

/-- A staging buffer at named contents. -/
abbrev stg (c : Dev nD) (b : Ref sig .tc) (X : b.ty.Contents (Elt F)) : sProp 𝕄 :=
  iprop(∃ f : Buf (Elt F) ((c : Thread nD τ).loc b), ⌜f = X⌝ ∗ ((c : Thread nD τ).loc b ↦{fullShare} f))

def pointPre (c : Dev nD) : sProp 𝕄 :=
  iprop((X1 m c ∗ scr c) ∗ (dat m c).owesAt () t0_0.castSucc
    ∗ (∃ d, stg c cc0_stg0_0 ((dat m c).before (0 : Fin 6) t0_0 d)) ∗ (∃ d, stg c cc0_stg1_0 ((dat m c).before (1 : Fin 6) t0_0 d))
    ∗ (∃ d, stg c cc0_stg2_0 ((dat m c).before (2 : Fin 6) t0_0 d)) ∗ (∃ d, stg c cc0_stg3_0 ((dat m c).before (3 : Fin 6) t0_0 d))
    ∗ (∃ d, stg c cc0_stg4_0 ((dat m c).before (4 : Fin 6) t0_0 d)) ∗ (∃ d, stg c cc0_stg5_0 ((dat m c).before (5 : Fin 6) t0_0 d)))
def pointPost (c : Dev nD) : sProp 𝕄 :=
  iprop((Y1 c ∗ scr c) ∗ (dat m c).owesAt () t0_0.succ
    ∗ stg c cc0_stg0_0 (insOf m c).x ∗ stg c cc0_stg1_0 (insOf m c).wq ∗ stg c cc0_stg2_0 (insOf m c).k ∗ stg c cc0_stg3_0 (insOf m c).v
    ∗ stg c cc0_stg4_0 (insOf m c).wo ∗ stg c cc0_stg5_0 (outSt (parts m) 8 c))

theorem stg_intro (c : Dev nD) (b : Ref sig .tc) (X : b.ty.Contents (Elt F)) : ((c : Thread nD τ).loc b ↦{fullShare} X : sProp 𝕄) ⊢ stg c b X := by
  iintro H; iexists X; isplitr; · ipureintro; rfl
  iexact H

/-- The steps' returns, sorted: the counters, and the slots. -/
theorem steps_out (c : Dev nD) : (bigSep Finset.univ (fun s => stepOut s c) : sProp 𝕄)
    ⊢ iprop(Pipeline.ownSems0 osem c ∗ bigSep Finset.univ (fun s => iprop(∃ f : Comm F, slotPt s c f))) := by
  unfold stepOut
  rw [ownSems_eq, bigSep_sep', bigSep_sep']
  iintro ⟨H1, H2, H3⟩
  isplitl [H1 H2]; · isplitl [H1] <;> iassumption
  iexact H3

/-- The call's one point. -/
theorem point (c : Dev nD) : pointPre m c ⊢ WP c body (fun _ => pointPost m c) := by
  unfold pointPre X1 scr
  iintro ⟨⟨⟨Hlev, Hbar, Hsig, Hst⟩, Hct, Hsb, Hcm, Hreg⟩, HO, ⟨%d0, %g0, %h0, Hx⟩, ⟨%d1, %g1, %h1, Hwq⟩, ⟨%d2, %g2, %h2, Hk⟩, ⟨%d3, %g3, %h3, Hv⟩, ⟨%d4, %g4, %h4, Hwo⟩, ⟨%d5, %g5, -, Ho⟩⟩
  rw [before_x] at h0
  rw [before_wq] at h1
  rw [before_k] at h2
  rw [before_v] at h3
  rw [before_wo] at h4
  subst h0 h1 h2 h3 h4
  ihave HO := (owesAt_elim m _ (O₀ c) (owed_first m c)) $$ HO
  ihave Hcm := (comm_split c) $$ Hcm
  icases Hcm with ⟨Hslots, Hrest⟩
  iapply (wp_body (parts m) c (insOf m c) rfl fun _ => pointPost m c)
  isplitl [Hlev Hbar Hsig Hst Hct Hsb Hslots HO Hx Hwq Hk Hv Hwo Ho]
  · unfold bodyIn insPt
    isplitl [Hlev]; · iexact Hlev
    isplitl [Hbar]; · iexact Hbar
    isplitl [Hsig]; · iexact Hsig
    isplitl [Hst]; · iexact Hst
    isplitl [Hx Hwq Hk Hv Hwo]
    · isplitl [Hx]; · iexact Hx
      isplitl [Hwq]; · iexact Hwq
      isplitl [Hk]; · iexact Hk
      isplitl [Hv]; · iexact Hv
      iexact Hwo
    isplitl [Hct]; · iexact Hct
    isplitl [Hsb]; · iexact Hsb
    isplitl [Hslots]; · iexact Hslots
    isplitl [Ho]; · iexists g5; iexact Ho
    iexact HO
  unfold bodyOut insPt at_ pointPost Y1 scr
  iintro ⟨Hz, Hso, ⟨Hx, Hwq, Hk, Hv, Hwo⟩, Hct, Ho, Hsb, ⟨%W, HO⟩⟩
  ihave Hso := (steps_out c) $$ Hso
  icases Hso with ⟨Hos, Hsl⟩
  isplitl [Hz Hos Hct Hsb Hsl Hrest Hreg]
  · isplitl [Hz Hos]; · isplitl [Hz] <;> iassumption
    isplitl [Hct]; · iexact Hct
    isplitl [Hsb]; · unfold anySb; iexact Hsb
    isplitl [Hsl Hrest]
    · iapply (comm_join c)
      isplitl [Hsl] <;> iassumption
    iexact Hreg
  isplitl [HO]
  · rw [Os_last]
    iapply (owesAt_intro m t0_0.succ 0 (owed_last m c) W); iexact HO
  isplitl [Hx]; · iapply stg_intro; iexact Hx
  isplitl [Hwq]; · iapply stg_intro; iexact Hwq
  isplitl [Hk]; · iapply stg_intro; iexact Hk
  isplitl [Hv]; · iapply stg_intro; iexact Hv
  isplitl [Hwo]; · iapply stg_intro; iexact Hwo
  iapply stg_intro; iexact Ho

/-- The body meets its obligation. -/
theorem body_obligation (c : Dev nD) : BodyObligation (dat m c) defs₀ 𝒱₀ () Set.univ := fun t => by
  rw [fin_N0 t]
  rw [bigSep_W0, bigSep_W0]
  simp only [owns_whole_eq]
  exact point m c

end Cert.KernelIdeal.Exchange
-- ==== Proof.Call.lean ====
module

public import proofs.«01_k».proof.Proof.Region

@[expose] public section

/-!
# The region's record

What the launch hands each device for the exchange, how the send and arrival cells are opened when the call is entered,
and the record of the call: from the host's buffers before it to the host's buffers after it.
-/

set_option maxRecDepth 16384

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat BodyObligation)
open Cert.KernelIdeal Cert.KernelIdeal.Gen

variable {F : FTy → Type} [FloatOps F]

local notation "𝕄" => MT nD τ sig Unit (Elt F) ℕ UU ℕ

/-! ## What the launch keeps for the call -/

section Kept

variable (P : Dev nD → Part F)

/-- For the signal along bit `k`: the partner's barrier cell and the token of the duty paid there. -/
def sigKept (k : Fin 4) (c : Dev nD) : sProp 𝕄 :=
  iprop(∃ κ : ℕ, cellInv ER (rd P) κ (barCell (flip k c)) ∗ reached ER (barCell (flip k c)) 0 ∗ dutyTok ER (barCell (flip k c)) 0 k)
/-- For step `s`: the three cells, the rights to open the two own ones, the tokens of the two duties paid and the
    credit for the arrival. -/
def stepKept (s : Fin 8) (c : Dev nD) : sProp 𝕄 :=
  iprop(∃ κ₁ κ₂ κ₃ : ℕ, cellInv ER (rd P) κ₁ (sendCell s c) ∗ cellInv ER (rd P) κ₂ (recvCell s c) ∗ cellInv ER (rd P) κ₃ (recvCell s (pt s c))
    ∗ openTok ER (sendCell s c) ∗ openTok ER (recvCell s c)
    ∗ dutyTok ER (sendCell s c) 0 0 ∗ dutyTok ER (recvCell s (pt s c)) 0 0 ∗ cred (tallyAt (recvCell s c) () (N s)))
/-- All of it. -/
def kept (c : Dev nD) : sProp 𝕄 :=
  iprop(barIn P c ∗ bigSep Finset.univ (fun k => sigKept P k c) ∗ bigSep Finset.univ (fun s => stepKept P s c))

/-- The send and arrival cells of step `s` opened, their counters being zero. -/
theorem step_open (s : Fin 8) (c : Dev nD) : iprop(stepKept P s c ∗ semVal (sendCell s c) 0 ∗ semVal (recvCell s c) 0)
    ⊢ (|={Set.univ}=> iprop(stepIn P s c ∗ reached ER (recvCell s c) 0) : sProp 𝕄) := by
  unfold stepKept stepIn
  iintro ⟨⟨%κ₁, %κ₂, %κ₃, #H1, #H2, #H3, Ho1, Ho2, Ht1, Ht2, Hc⟩, Hv1, Hv2⟩
  imod (Rounds.cell_open (κ := κ₁) (g := sendCell s c) ER (rd P) (Set.mem_univ κ₁)) $$ [Ho1 Hv1] with ⟨Ha1, #Hr1⟩
  · isplitr; · iexact H1
    isplitl [Ho1] <;> iassumption
  imod (Rounds.cell_open (κ := κ₂) (g := recvCell s c) ER (rd P) (Set.mem_univ κ₂)) $$ [Ho2 Hv2] with ⟨Ha2, #Hr2⟩
  · isplitr; · iexact H2
    isplitl [Ho2] <;> iassumption
  imodintro
  isplitl [Ha1 Ha2 Ht1 Ht2 Hc]
  · iexists κ₁; iexists κ₂; iexists κ₃
    isplitr; · iexact H1
    isplitr; · iexact H2
    isplitr; · iexact H3
    isplitl [Ha1]; · iexact Ha1
    isplitl [Ha2]; · iexact Ha2
    isplitr; · iexact Hr1
    isplitl [Ht1]; · iexact Ht1
    isplitl [Ht2]; · iexact Ht2
    iexact Hc
  iexact Hr2

/-- That all of `c`'s arrival cells are open. -/
def allOpen (c : Dev nD) : sProp 𝕄 := bigSep Finset.univ fun s : Fin 8 => reached ER (recvCell s c) 0
instance (c : Dev nD) : BI.Persistent (allOpen c : sProp 𝕄) := by unfold allOpen; infer_instance
theorem open_at (s : Fin 8) (c : Dev nD) : (allOpen c : sProp 𝕄) ⊢ reached ER (recvCell s c) 0 := by
  unfold allOpen; exact bigSep_elim (Finset.mem_univ s)

theorem sig_open (k : Fin 4) (c : Dev nD) : iprop(allOpen c ∗ sigKept P k c) ⊢ sigIn P k c := by
  unfold sigKept sigIn
  iintro ⟨#HA, ⟨%κ, #HI, #Hr, Ht⟩⟩
  iexists κ
  isplitr; · iexact HI
  isplitr; · iexact Hr
  isplitl [Ht]; · iexact Ht
  isplitr; · iapply (open_at (F := F) (early k) c) $$ HA
  iapply (open_at (F := F) (late k) c) $$ HA

theorem steps_open (c : Dev nD) : iprop(bigSep Finset.univ (fun s => stepKept P s c) ∗ Pipeline.ownSems0 osem c)
    ⊢ (|={Set.univ}=> iprop(bigSep Finset.univ (fun s => stepIn P s c) ∗ allOpen c) : sProp 𝕄) := by
  rw [ownSems_eq, ← bigSep_sep', ← bigSep_sep']
  unfold allOpen
  rw [← bigSep_sep']
  exact (bigSep_mono fun s _ => step_open P s c).trans (bigSep_fupd Finset.univ _)

/-- Entering the call: the cells opened. -/
theorem enter (c : Dev nD) : iprop(kept P c ∗ Pipeline.ownSems0 osem c ∗ levAts L lv)
    ⊢ (|={Set.univ}=> iprop(levAts L lv ∗ barIn P c ∗ bigSep Finset.univ (fun k => sigIn P k c) ∗ bigSep Finset.univ (fun s => stepIn P s c)) : sProp 𝕄) := by
  unfold kept
  iintro ⟨⟨Hb, Hk, Hs⟩, Hos, Hlev⟩
  imod (steps_open P c) $$ [Hs Hos] with ⟨Hs, #HA⟩
  · isplitl [Hs] <;> iassumption
  imodintro
  isplitl [Hlev]; · iexact Hlev
  isplitl [Hb]; · iexact Hb
  isplitl [Hk]
  · iapply (bigSep_with_persistent (R := allOpen c) (Φ := fun k => sigKept P k c) fun k _ => sig_open P k c)
    isplitr; · iexact HA
    iexact Hk
  iexact Hs

end Kept

/-! ## The record -/

variable (m : (ℓ : Loc nD τ sig) → Buf (Elt F) ℓ)

def kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem phi_first (c : Dev nD) : (pdats m 0 c).Φ 0 = iprop(X1 m c ∗ scr c) := by
  show (if ((0 : Fin (cfg0.N + 1)).val = 0) then iprop(X1 m c ∗ scr c) else iprop(Y1 c ∗ scr c)) = _; exact if_pos rfl
theorem phi_last (c : Dev nD) : (pdats m 0 c).Φ (Fin.last (Pipeline.pin (pcfgs (F := F)) adm 0).N) = iprop(Y1 c ∗ scr c) := by
  show (if ((Fin.last cfg0.N).val = 0) then iprop(X1 m c ∗ scr c) else iprop(Y1 c ∗ scr c)) = _
  rw [Fin.val_last, if_neg (by rw [show cfg0.N = 1 from N_0]; decide)]

theorem region_in (c : Dev nD) : iprop(Pipeline.scopedRest (Pipeline.pin (pcfgs (F := F)) adm 0).spec c ∗ (∃ r, prngReg c r)
    ∗ StableHlo.held (c.tc : Thread nD τ) ∅ (V1 m c) ∗ X1 m c) ⊢ (pdats m 0 c).Φ 0 := by
  rw [phi_first, scopedRest0_eq]
  unfold scr anyCtx anySb anyComm
  iintro ⟨⟨H0, H1, H2⟩, Hp, -, HX⟩
  isplitl [HX]; · iexact HX
  isplitl [H0]; · iexact H0
  isplitl [H1]; · iexact H1
  isplitl [H2]; · iexact H2
  iexact Hp

theorem region_out (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (V2 m (outs m) c) ∗ Pipeline.ownSems0 osem c ∗ semVal (barCell c) 0) := by
  rw [phi_last, scopedRest0_eq]
  unfold scr anyCtx anySb anyComm Y1
  iintro ⟨⟨Hb, Hos⟩, H0, H1, H2, Hp⟩
  isplitl [H0 H1 H2]
  · isplitl [H0]; · iexact H0
    isplitl [H1]; · iexact H1
    iexact H2
  isplitl [Hp]; · iexact Hp
  isplitr
  · unfold StableHlo.held; rw [BI.bigSep_empty]; iempintro
  isplitl [Hos]; · iexact Hos
  iexact Hb

theorem cut_owed (c : Dev nD) (t : Fin ((Pipeline.pin (pcfgs (F := F)) adm 0).N + 1)) (g : GSem nD τ sig) (i : Unit)
    (h : 0 < (pdats (F := F) m 0 c).owed t g i) : i ∈ L g ∧ (0 : ℕ) < lv g i := by
  have e : (pdats (F := F) m 0 c).owed t = if t.val = 0 then O₀ c else 0 := rfl
  rw [e] at h
  split at h
  · unfold O₀ at h
    rw [Pi.add_apply, Finsupp.add_apply] at h
    rcases Nat.add_pos_iff_pos_or_pos.mp h with h | h
    · obtain ⟨s, -, rfl⟩ := Os_pos h
      exact ⟨by rw [L_tc]; exact Finset.mem_singleton_self _, by rw [lv_recv]; omega⟩
    · obtain ⟨k, rfl⟩ := Ob_pos h
      exact ⟨by rw [L_tc]; exact Finset.mem_singleton_self _, Nat.one_pos⟩
  · exact absurd h (Nat.lt_irrefl 0)

theorem cut_lv : ∀ (w : Fin 6) (s : Fin ((cfg0.win w).nbuf)), ((cfg0.win w).sem s).val < 14 := by decide

/-- The operands' buffers before the call. -/
theorem arr_before (c : Dev nD) (w : Fin 6) : (dat m c).arrAt w 0 = V1 m c (Proc.devRef .tc (Pipeline.arrRef spec0 w)) := by
  fin_cases w <;> rfl

theorem V2_in (c : Dev nD) (r : Ref sig .tc) (h : r ∉ ([main_v20] : List (Ref sig .tc))) : V1 m c r = V2 m (outs m) c r := (V2_of m _ c r h).symm

/-- What the call leaves in the host's result buffer. -/
theorem arr_out (c : Dev nD) : (dat m c).arrAt 5 cfg0.N = V2 m (outs m) c main_v20 := by
  rw [show V2 m (outs m) c main_v20 = outs m 2 main_v20 c from Function.update_self .., outs_out]
  refine (dat m c).arrAt_eq_of_after_last 5 t0_0 (by decide +kernel) _ fun j => ?_
  refine (cast_eq _ _).trans ?_
  rfl

theorem arr_same (c : Dev nD) (w : Fin 6) (hw : (cfg0.win w).isOut = false) (hr : Pipeline.arrRef spec0 w ∉ ([main_v20] : List (Ref sig .tc))) :
    (dat m c).arrAt w cfg0.N = V2 m (outs m) c (Proc.devRef .tc (Pipeline.arrRef spec0 w)) :=
  ((dat m c).arrAt_in w hw _).trans ((arr_before m c w).trans (V2_in m c _ hr))

theorem in_of : ∀ w : Fin 6, w ≠ 5 → (cfg0.win w).isOut = false := by decide
theorem arr_ne : ∀ w : Fin 6, w ≠ 5 → Pipeline.arrRef spec0 w ∉ ([main_v20] : List (Ref sig .tc)) := by decide
theorem arr_after (c : Dev nD) (w : Fin 6) : (dat m c).arrAt w cfg0.N = V2 m (outs m) c (Proc.devRef .tc (Pipeline.arrRef spec0 w)) := by
  by_cases h : w = 5
  · subst h; exact arr_out m c
  · exact arr_same m c w (in_of w h) (arr_ne w h)

/-- The host's buffers that the call does not address. -/
abbrev others : Finset (DevRef τ sig) := Pipeline.ucRefs τ sig \ Pipeline.arrRefs (τ := τ) spec0
theorem arrs_sub : Pipeline.arrRefs (τ := τ) spec0 ⊆ Pipeline.ucRefs τ sig := Pipeline.arrRefs_sub_ucRefs spec0 (by decide)

theorem others_same (c : Dev nD) : ∀ b ∈ others \ ∅, V2 m (outs m) c b = V1 m c b := fun b hb => by
  rw [Finset.sdiff_empty] at hb
  refine Function.update_of_ne (fun e => (Finset.mem_sdiff.mp hb).2 ?_) _ _
  rw [e]
  exact Finset.mem_map_of_mem _ (Finset.mem_image_of_mem (Pipeline.arrRef spec0) (Finset.mem_univ (5 : Fin 6)))

set_option backward.isDefEq.respectTransparency.types false in
/-- The call's record. -/
def reg : Pipeline.RegionSeg (pcfgs (F := F)) adm (pdats m) () defs₀ 𝒱₀ L lv 0 :=
  Pipeline.RegionSeg.ofTalk (pcfgs (F := F)) adm (pdats m) () defs₀ 𝒱₀ L lv 0 osem osem_facts
    ∅ others (Finset.empty_subset _) kit rfl (fun c => (body_obligation m c).loose)
    (fun _ => 0) O₀ (fun c => (owed_zero m c).trans (zero_add _).symm) (owed_last m) (fun _ => rfl)
    (fun c w => by unfold Dat.share; split <;> rfl)
    (V1 m) (V2 m (outs m)) (others_same m)
    (kept (parts m)) (fun c => semVal (barCell c) 0) (X1 m) (fun c => semVal (barCell c) 0)
    (enter (parts m)) (region_in m) (region_out m)
    (fun c => by iintro H; imodintro; iexact H)
    (fun _ => 0)
    ⟨fun _ _ _ => by rw [L_tc]; exact Finset.mem_singleton_self _,
      fun c w s => by
        show (if 14 ≤ ((cfg0.win w).sem s).val then ((cfg0.win w).sem s).val - 12 else 0) ≤ 0
        rw [if_neg (Nat.not_le.mpr (cut_lv w s))],
      fun c t g i h => cut_owed m c t g i h⟩
    (fun _ => iprop(emp))
    (arr_before m) (arr_after m)

/-- The rest of a device's holdings before the call, -/
def restPre (c : Dev nD) : sProp 𝕄 :=
  iprop(kept (parts m) c ∗ (∃ r, prngReg c r) ∗ ∃ W, owes (c : Thread nD τ) (O₀ c) W)
/-- and after it. -/
def restPost (c : Dev nD) : sProp 𝕄 :=
  iprop(semVal (barCell c) 0 ∗ ∃ W, owes (c : Thread nD τ) (0 : CellTallies nD τ sig Unit) W)

theorem reg_pre (c : Dev nD) : iprop(StableHlo.held (c : Thread nD τ) (Pipeline.ucRefs τ sig) (V1 m c) ∗ restPre m c) ⊢ (reg m).pre c := by
  show _ ⊢ iprop(StableHlo.held (c.tc : Thread nD τ) (Pipeline.arrRefs (τ := τ) spec0) (V1 m c) ∗ (∃ r, prngReg c r)
    ∗ (StableHlo.held (c.tc : Thread nD τ) others (V1 m c) ∗ emp) ∗ kept (parts m) c ∗ ∃ Wd, owes (c : Thread nD τ) (0 + O₀ c) Wd)
  rw [StableHlo.held_sub_split (c.tc : Thread nD τ) arrs_sub, zero_add]
  unfold restPre
  iintro ⟨⟨Ha, Ho⟩, HK, Hp, HO⟩
  isplitl [Ha]; · iexact Ha
  isplitl [Hp]; · iexact Hp
  isplitl [Ho]
  · isplitl [Ho]; · iexact Ho
    iempintro
  isplitl [HK]; · iexact HK
  iexact HO

theorem reg_post (c : Dev nD) : (reg m).post c
    ⊢ iprop(StableHlo.held (c : Thread nD τ) (Pipeline.ucRefs τ sig) (V2 m (outs m) c) ∗ restPost c) := by
  show iprop(StableHlo.held (c.tc : Thread nD τ) (Pipeline.arrRefs (τ := τ) spec0) (V2 m (outs m) c) ∗ (∃ r, prngReg c r)
    ∗ (StableHlo.held (c.tc : Thread nD τ) others (V2 m (outs m) c) ∗ emp) ∗ semVal (barCell c) 0
    ∗ ∃ Wd, owes (c : Thread nD τ) (0 : CellTallies nD τ sig Unit) Wd) ⊢ _
  rw [StableHlo.held_sub_split (c.tc : Thread nD τ) arrs_sub]
  unfold restPost
  iintro ⟨Ha, -, ⟨Ho, -⟩, Hb, HO⟩
  isplitl [Ha Ho]; · isplitl [Ha] <;> iassumption
  isplitl [Hb]; · iexact Hb
  iexact HO

end Cert.KernelIdeal.Exchange

end
-- ==== Proof.Launch.lean ====
module

public import proofs.«01_k».proof.Proof.Call

@[expose] public section

/-!
# The launch, and the run of the whole program

Every cell's invariant and every duty's token made at launch, dealt to the devices that use them; the credits of the
barrier and arrival cells; and the run: from any memory with zero counters the program terminates on all sixteen
devices, every argument as launched, the result buffer at a named value and every counter at zero.
-/

set_option maxRecDepth 16384

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat BodyObligation Seg HostSeg RegionSeg)
open Cert.KernelIdeal Cert.KernelIdeal.Gen

variable {F : FTy → Type} [FloatOps F]

local notation "𝕄" => MT nD τ sig Unit (Elt F) ℕ UU ℕ

/-- A conjunction over a finite type of a conjunction of two families is the conjunction of the families' conjunctions. -/
theorem families_eq {ι : Type} [Fintype ι] (Φ Ψ : ι → sProp 𝕄) :
    bigSep Finset.univ (fun c => iprop(Φ c ∗ Ψ c)) = iprop(bigSep Finset.univ Φ ∗ bigSep Finset.univ Ψ) := bigSep_sep' ..
theorem families_join {ι : Type} [Fintype ι] {Φ Ψ : ι → sProp 𝕄} : iprop(bigSep Finset.univ Φ ∗ bigSep Finset.univ Ψ)
    ⊢ bigSep Finset.univ (fun c => iprop(Φ c ∗ Ψ c)) := Entails.of_eq (families_eq Φ Ψ).symm
theorem families_split {ι : Type} [Fintype ι] {Φ Ψ : ι → sProp 𝕄} : bigSep Finset.univ (fun c => iprop(Φ c ∗ Ψ c))
    ⊢ iprop(bigSep Finset.univ Φ ∗ bigSep Finset.univ Ψ) := Entails.of_eq (families_eq Φ Ψ)

/-! ## The cells and the tokens -/

def barEmb : Dev nD ↪ GSem nD τ sig := ⟨fun c => barCell c, fun _ _ h => congrArg (fun g : GSem nD τ sig => g.1.1) h⟩
theorem osem_inj : Function.Injective osem := by decide
theorem osem_ne_bar : ∀ p : Fin 2 × Fin 8, osem p ≠ .reg barrier0 := by decide
def stepEmb : Dev nD × (Fin 2 × Fin 8) ↪ GSem nD τ sig :=
  ⟨fun x => ((x.1 : Thread nD τ), osem x.2), fun _ _ h =>
    Prod.ext (congrArg (fun g : GSem nD τ sig => g.1.1) h) (osem_inj (congrArg Prod.snd h))⟩

/-- The barrier cells. -/
abbrev barCells : Finset (GSem nD τ sig) := Finset.univ.map barEmb
/-- The send and arrival cells. -/
abbrev stepCells : Finset (GSem nD τ sig) := Finset.univ.map stepEmb

theorem bar_ne_step (c : Dev nD) (x : Dev nD × (Fin 2 × Fin 8)) : stepEmb x ≠ barCell c := fun h => osem_ne_bar x.2 (congrArg Prod.snd h)
theorem bar_ne_recv (t : Fin 8) (d c : Dev nD) : recvCell t d ≠ barCell c := bar_ne_step c (d, ((1 : Fin 2), t))
theorem disjoint_cells : Disjoint (barCells : Finset (GSem nD τ sig)) stepCells := by
  rw [Finset.disjoint_left]
  intro g h₁ h₂
  obtain ⟨c, -, rfl⟩ := Finset.mem_map.mp h₁
  obtain ⟨x, -, h⟩ := Finset.mem_map.mp h₂
  exact bar_ne_step c x h

theorem mem_bar (c : Dev nD) : barCell c ∈ (barCells : Finset (GSem nD τ sig)) := Finset.mem_map_of_mem barEmb (Finset.mem_univ c)
theorem mem_send (s : Fin 8) (c : Dev nD) : sendCell s c ∈ (stepCells : Finset (GSem nD τ sig)) :=
  Finset.mem_map_of_mem stepEmb (Finset.mem_univ (c, ((0 : Fin 2), s)))
theorem mem_recv (s : Fin 8) (c : Dev nD) : recvCell s c ∈ (stepCells : Finset (GSem nD τ sig)) :=
  Finset.mem_map_of_mem stepEmb (Finset.mem_univ (c, ((1 : Fin 2), s)))

/-- A duty of one device's cells: one per bit on the barrier cell, one on each send and arrival cell. -/
abbrev Duty : Type := Fin 4 ⊕ (Fin 2 × Fin 8)
def dutyOf (c : Dev nD) : Duty → GSem nD τ sig × ℕ × Fin 4
  | .inl k => (barCell c, 0, k)
  | .inr p => (((c : Thread nD τ), osem p), 0, 0)
theorem dutyOf_inj : Function.Injective fun x : Dev nD × Duty => dutyOf x.1 x.2 := by
  rintro ⟨c, k | p⟩ ⟨d, l | q⟩ h
  · have h1 : c = d := congrArg (fun t : GSem nD τ sig × ℕ × Fin 4 => t.1.1.1) h
    have h2 : k = l := congrArg (fun t : GSem nD τ sig × ℕ × Fin 4 => t.2.2) h
    rw [h1, h2]
  · exact absurd (congrArg (fun t : GSem nD τ sig × ℕ × Fin 4 => t.1.2) h).symm (osem_ne_bar q)
  · exact absurd (congrArg (fun t : GSem nD τ sig × ℕ × Fin 4 => t.1.2) h) (osem_ne_bar p)
  · have h1 : c = d := congrArg (fun t : GSem nD τ sig × ℕ × Fin 4 => t.1.1.1) h
    have h2 : p = q := osem_inj (congrArg (fun t : GSem nD τ sig × ℕ × Fin 4 => t.1.2) h)
    rw [h1, h2]
/-- Every duty's token. -/
def tokens : Finset (GSem nD τ sig × ℕ × Fin 4) := Finset.univ.map ⟨fun x : Dev nD × Duty => dutyOf x.1 x.2, dutyOf_inj⟩

/-- The tokens, by the cell that they are paid into. -/
theorem tokens_eq : (bigSep tokens (fun x => dutyTok ER x.1 x.2.1 x.2.2) : sProp 𝕄)
    = bigSep Finset.univ fun c : Dev nD => iprop(bigSep Finset.univ (fun k : Fin 4 => dutyTok ER (barCell c) 0 k)
      ∗ bigSep Finset.univ (fun s : Fin 8 => dutyTok ER (sendCell s c) 0 0) ∗ bigSep Finset.univ (fun s : Fin 8 => dutyTok ER (recvCell s c) 0 0)) := by
  unfold tokens; rw [bigSep_map, bigSep_univ_prod]
  refine bigSep_congr fun c _ => ?_
  rw [bigSep_univ_sum, bigSep_univ_prod, BI.bigSep_fin_two]
  rfl

/-- A family over devices and steps dealt to the partners of the steps. -/
theorem around_step (Φ : Fin 8 → Dev nD → sProp 𝕄) : (bigSep Finset.univ fun c : Dev nD => bigSep Finset.univ fun s => Φ s c)
    = bigSep Finset.univ fun c : Dev nD => bigSep Finset.univ fun s => Φ s (pt s c) := by
  rw [bigSep_univ_comm, bigSep_univ_comm (fun c s => Φ s (pt s c))]
  exact bigSep_congr fun s _ => bigSep_univ_equiv (ptEquiv s) (Φ s)
/-- The same along the bits. -/
theorem around_bit (Φ : Fin 4 → Dev nD → sProp 𝕄) : (bigSep Finset.univ fun c : Dev nD => bigSep Finset.univ fun k => Φ k c)
    = bigSep Finset.univ fun c : Dev nD => bigSep Finset.univ fun k => Φ k (flip k c) := by
  rw [bigSep_univ_comm, bigSep_univ_comm (fun c k => Φ k (flip k c))]
  exact bigSep_congr fun k _ => bigSep_univ_equiv (flipEquiv k) (Φ k)

/-- The tokens, by the device that pays them. -/
theorem tokens_around : (bigSep tokens (fun x => dutyTok ER x.1 x.2.1 x.2.2) : sProp 𝕄)
    = bigSep Finset.univ fun c : Dev nD => iprop(bigSep Finset.univ (fun k : Fin 4 => dutyTok ER (barCell (flip k c)) 0 k)
      ∗ bigSep Finset.univ (fun s : Fin 8 => dutyTok ER (sendCell s c) 0 0) ∗ bigSep Finset.univ (fun s : Fin 8 => dutyTok ER (recvCell s (pt s c)) 0 0)) := by
  rw [tokens_eq, bigSep_sep', bigSep_sep', bigSep_sep', bigSep_sep',
    around_bit (F := F) (fun k c => dutyTok ER (barCell c) 0 k), around_step (F := F) (fun s c => dutyTok ER (recvCell s c) 0 0)]

/-- The launch's ghost state. -/
def u₀ : UU :=
  (initOf (Pipeline.cells (Pipeline.pin (pcfgs (F := F)) adm) cellOf_inj) (Pipeline.launchToks (Pipeline.pin (pcfgs (F := F)) adm) cellOf_inj),
    launchOf barCells stepCells tokens)

/-- The exchange's part of it, held by device 0 until it is dealt. -/
def G (c : Dev nD) : sProp 𝕄 := if c = 0 then BI.own (ER (launchOf barCells stepCells tokens)) else iprop(emp)
theorem G_all : (bigSep Finset.univ G : sProp 𝕄) = BI.own (ER (launchOf barCells stepCells tokens)) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

/-! ## The credits -/

theorem recv_cell_inj {s t : Fin 8} {c d : Dev nD} (h : recvCell s c = recvCell t d) : s = t ∧ c = d :=
  ⟨(osem_inj (a₁ := ((1 : Fin 2), s)) (a₂ := ((1 : Fin 2), t)) (congrArg Prod.snd h)) |> congrArg Prod.snd, congrArg (fun g : GSem nD τ sig => g.1.1) h⟩

/-- What device `d` owes at launch to `c`'s barrier cell. -/
theorem owed_bar (d c : Dev nD) : O₀ d (barCell c) () = ∑ k : Fin 4, if d = flip k c then 1 else 0 := by
  unfold O₀
  rw [Pi.add_apply, Finsupp.add_apply,
    show Os 0 d (barCell c) () = 0 from Nat.eq_zero_of_not_pos fun h => by
      obtain ⟨t, -, h⟩ := Os_pos h; exact bar_ne_recv t _ c h.symm, Nat.zero_add]
  unfold Ob
  rw [Finset.sum_apply, Finsupp.finset_sum_apply, Finset.filter_true_of_mem fun k _ => Nat.zero_le _]
  refine Finset.sum_congr rfl fun k _ => ?_
  rw [tallyAt_apply]
  refine if_congr ⟨fun h => ?_, fun h => ?_⟩ rfl rfl
  · have : c = flip k d := congrArg (fun g : GSem nD τ sig => g.1.1) h.1
    rw [this, flip_flip]
  · rw [h, flip_flip]; exact ⟨rfl, rfl⟩
/-- What device `d` owes at launch to `c`'s arrival cell of step `s`. -/
theorem owed_recv (s : Fin 8) (d c : Dev nD) : O₀ d (recvCell s c) () = if d = pt s c then N s else 0 := by
  unfold O₀
  rw [Pi.add_apply, Finsupp.add_apply,
    show Ob 0 d (recvCell s c) () = 0 from Nat.eq_zero_of_not_pos fun h => by
      obtain ⟨t, h⟩ := Ob_pos h; exact bar_ne_recv s c _ h, Nat.add_zero]
  unfold Os
  rw [Finset.sum_apply, Finsupp.finset_sum_apply, Finset.sum_eq_single s]
  · rw [tallyAt_apply]
    refine if_congr ⟨fun h => ?_, fun h => ?_⟩ rfl rfl
    · rw [(recv_cell_inj h.1).2, pt_pt]
    · rw [h, pt_pt]; exact ⟨rfl, rfl⟩
  · intro t _ ht
    rw [tallyAt_apply, if_neg fun h => ht (recv_cell_inj h.1).1.symm]
  · exact fun h => absurd (Finset.mem_filter.mpr ⟨Finset.mem_univ s, Nat.zero_le s.val⟩) h

theorem credit_bar (c : Dev nD) :
    tallyOn (barCell c) (launchCredit (Pipeline.owing O₀) 0 (barCell c)) = (tallyAt (barCell c) () 4 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm,
    Finset.sum_congr rfl fun k _ => Finset.sum_ite_eq' Finset.univ (flip k c) fun _ => 1]
  simp
theorem credit_recv (s : Fin 8) (c : Dev nD) :
    tallyOn (recvCell s c) (launchCredit (Pipeline.owing O₀) 0 (recvCell s c)) = (tallyAt (recvCell s c) () (N s) : CellTallies nD τ sig Unit) := by
  unfold tallyAt; refine congrArg _ (Finsupp.ext fun u => ?_); cases u
  rw [Pipeline.launchCredit_owing, Finsupp.single_eq_same, Finset.sum_congr rfl fun d _ => owed_recv s d c, Finset.sum_ite_eq' Finset.univ (pt s c) fun _ => N s,
    if_pos (Finset.mem_univ _)]

def recvLoc : Fin 8 ↪ SemLoc sig := ⟨fun s => .dma (recvSem s), by decide⟩
theorem recvLocs_sub : Finset.univ.map recvLoc ⊆ Finset.univ.erase (SemLoc.reg barrier0 : SemLoc sig) := by decide

/-- A device's credits out of the launch's. -/
theorem credits (c : Dev nD) : (Pipeline.launchCred O₀ c : sProp 𝕄)
    ⊢ iprop(cred (tallyAt (barCell c) () 4) ∗ bigSep Finset.univ fun s => cred (tallyAt (recvCell s c) () (N s))) := by
  unfold Pipeline.launchCred
  rw [bigSep_univ_at _ (SemLoc.reg barrier0), credit_bar]
  refine sep_mono_right ?_
  rw [bigSep_congr (s := (Finset.univ : Finset (Fin 8))) fun s _ => congrArg cred (credit_recv s c).symm]
  refine (bigSep_subset recvLocs_sub).trans ?_
  rw [bigSep_map]
  exact BI.Entails.refl _

/-! ## The deal -/

variable (m : (ℓ : Loc nD τ sig) → Buf (Elt F) ℓ) (ρ : Dev nD → PrngReg)

/-- What every device may consult: all the invariants, and that every barrier cell is open. -/
def records (κ : GSem nD τ sig → ℕ) : sProp 𝕄 :=
  iprop((bigSep (barCells ∪ stepCells) fun g => cellInv ER (rd (parts m)) (κ g) g) ∗ bigSep barCells fun g => reached ER g 0)
instance (κ : GSem nD τ sig → ℕ) : BI.Persistent (records m κ) := by unfold records; infer_instance

theorem elim_at {S : Finset (GSem nD τ sig)} {Φ : GSem nD τ sig → sProp 𝕄} {g : GSem nD τ sig} (hg : g ∈ S) : bigSep S Φ ⊢ Φ g := bigSep_elim hg

theorem inv_bar (κ : GSem nD τ sig → ℕ) (c : Dev nD) : records m κ ⊢ cellInv ER (rd (parts m)) (κ (barCell c)) (barCell c) := by
  unfold records
  iintro ⟨HI, -⟩
  iapply (elim_at (F := F) (Φ := fun g => cellInv ER (rd (parts m)) (κ g) g) (Finset.mem_union_left stepCells (mem_bar c))) $$ HI
theorem inv_step (κ : GSem nD τ sig → ℕ) {g : GSem nD τ sig} (hg : g ∈ (stepCells : Finset (GSem nD τ sig))) :
    records m κ ⊢ cellInv ER (rd (parts m)) (κ g) g := by
  unfold records
  iintro ⟨HI, -⟩
  iapply (elim_at (F := F) (Φ := fun g => cellInv ER (rd (parts m)) (κ g) g) (Finset.mem_union_right barCells hg)) $$ HI
theorem open_bar (κ : GSem nD τ sig → ℕ) (c : Dev nD) : records m κ ⊢ reached ER (barCell c) 0 := by
  unfold records
  iintro ⟨-, HR⟩
  iapply (elim_at (F := F) (Φ := fun g => reached ER g 0) (mem_bar c)) $$ HR

theorem sig_intro (κ : GSem nD τ sig → ℕ) (c : Dev nD) (k : Fin 4) :
    iprop(records m κ ∗ dutyTok ER (barCell (flip k c)) 0 k) ⊢ sigKept (parts m) k c := by
  unfold sigKept
  iintro ⟨#HR, Ht⟩
  iexists κ (barCell (flip k c))
  isplitr; · iapply (inv_bar m κ (flip k c)) $$ HR
  isplitr; · iapply (open_bar m κ (flip k c)) $$ HR
  iexact Ht

/-- What is dealt for one step. -/
def stepDeal (s : Fin 8) (c : Dev nD) : sProp 𝕄 :=
  iprop((openTok ER (sendCell s c) ∗ openTok ER (recvCell s c))
    ∗ (dutyTok ER (sendCell s c) 0 0 ∗ dutyTok ER (recvCell s (pt s c)) 0 0) ∗ cred (tallyAt (recvCell s c) () (N s)))
theorem step_intro (κ : GSem nD τ sig → ℕ) (c : Dev nD) (s : Fin 8) : iprop(records m κ ∗ stepDeal s c) ⊢ stepKept (parts m) s c := by
  unfold stepKept stepDeal
  iintro ⟨#HR, ⟨Ho1, Ho2⟩, ⟨Ht1, Ht2⟩, Hc⟩
  iexists κ (sendCell s c); iexists κ (recvCell s c); iexists κ (recvCell s (pt s c))
  isplitr; · iapply (inv_step m κ (mem_send s c)) $$ HR
  isplitr; · iapply (inv_step m κ (mem_recv s c)) $$ HR
  isplitr; · iapply (inv_step m κ (mem_recv s (pt s c))) $$ HR
  isplitl [Ho1]; · iexact Ho1
  isplitl [Ho2]; · iexact Ho2
  isplitl [Ht1]; · iexact Ht1
  isplitl [Ht2]; · iexact Ht2
  iexact Hc

/-- A device's rights from the funding of the cells: its position on its barrier cell, its rights to open, its tokens. -/
def rights (c : Dev nD) : sProp 𝕄 :=
  iprop(atPos ER (barCell c) 0 ∅ 0
    ∗ (bigSep Finset.univ (fun s : Fin 8 => openTok ER (sendCell s c)) ∗ bigSep Finset.univ (fun s : Fin 8 => openTok ER (recvCell s c)))
    ∗ bigSep Finset.univ (fun k : Fin 4 => dutyTok ER (barCell (flip k c)) 0 k)
    ∗ bigSep Finset.univ (fun s : Fin 8 => dutyTok ER (sendCell s c) 0 0) ∗ bigSep Finset.univ (fun s : Fin 8 => dutyTok ER (recvCell s (pt s c)) 0 0))
/-- The rest of its holdings at launch. -/
def holdings (c : Dev nD) : sProp 𝕄 :=
  iprop(StableHlo.held (c : Thread nD τ) (Pipeline.ucRefs τ sig) (V0 m c)
    ∗ (cred (tallyAt (barCell c) () 4) ∗ bigSep Finset.univ fun s => cred (tallyAt (recvCell s c) () (N s)))
    ∗ owes (c : Thread nD τ) (O₀ c) ∅ ∗ ∃ r, prngReg c r)

/-- What a device holds when the program begins. -/
def atStart (c : Dev nD) : sProp 𝕄 := iprop(StableHlo.held (c : Thread nD τ) (Pipeline.ucRefs τ sig) (V0 m c) ∗ restPre m c)

theorem kept_intro (κ : GSem nD τ sig → ℕ) (c : Dev nD) :
    iprop(records m κ ∗ rights c ∗ cred (tallyAt (barCell c) () 4) ∗ bigSep Finset.univ fun s => cred (tallyAt (recvCell s c) () (N s)))
      ⊢ kept (parts m) c := by
  unfold rights kept barIn
  iintro ⟨#HR, ⟨Ha, ⟨Ho1, Ho2⟩, Hk, Ht1, Ht2⟩, Hcb, Hcr⟩
  isplitl [Ha Hcb]
  · iexists κ (barCell c)
    isplitr; · iapply (inv_bar m κ c) $$ HR
    isplitl [Ha] <;> iassumption
  isplitl [Hk]
  · iapply (bigSep_with_persistent (R := records m κ) (Φ := fun k : Fin 4 => dutyTok ER (barCell (flip k c)) 0 k) fun k _ => sig_intro m κ c k)
    isplitr; · iexact HR
    iexact Hk
  iapply (bigSep_with_persistent (R := records m κ) (Φ := fun s => stepDeal s c) fun s _ => step_intro m κ c s)
  isplitr; · iexact HR
  unfold stepDeal
  iapply families_join
  isplitl [Ho1 Ho2]
  · iapply families_join
    isplitl [Ho1] <;> iassumption
  iapply families_join
  isplitl [Ht1 Ht2]
  · iapply families_join
    isplitl [Ht1] <;> iassumption
  iexact Hcr

theorem start_intro (κ : GSem nD τ sig → ℕ) (c : Dev nD) : iprop(records m κ ∗ (rights c ∗ holdings m c)) ⊢ atStart m c := by
  unfold holdings atStart restPre
  iintro ⟨#HR, Hl, Hh, ⟨H1, HN⟩, HO, Hp⟩
  isplitl [Hh]; · iexact Hh
  isplitl [Hl H1 HN]
  · iapply (kept_intro m κ c)
    isplitr; · iexact HR
    isplitl [Hl]; · iexact Hl
    isplitl [H1] <;> iassumption
  isplitl [Hp]; · iexact Hp
  iexists ∅; iexact HO

theorem unscoped_sems (c : Dev nD) : (unscopedSems0 c : sProp 𝕄) = semVal (barCell c) 0 := by
  unfold unscopedSems0
  rw [show (Finset.univ.filter fun sm : SemLoc sig => ¬ sm.isScoped .tc) = {SemLoc.reg barrier0} from by decide, BI.bigSep_singleton]

/-- One device's share of the launch. -/
theorem core_share (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ G c)
    ⊢ (iprop(holdings m c ∗ (semVal (barCell c) 0 ∗ G c)) : sProp 𝕄) := by
  rw [show unscopedBufs c (fun b => m ((c : Thread nD τ).loc b)) = StableHlo.held (c : Thread nD τ) (Pipeline.ucRefs τ sig) (V0 m c) from
    Pipeline.unscopedBufs_held c (V0 m c), unscoped_sems]
  unfold holdings
  iintro ⟨Hh, Hus, HO, Hcr, Hp, HG⟩
  ihave Hc := (credits (F := F) c) $$ Hcr
  isplitl [Hh Hc HO Hp]
  · isplitl [Hh]; · iexact Hh
    isplitl [Hc]; · iexact Hc
    isplitl [HO]; · iexact HO
    iexists (ρ c); iexact Hp
  isplitl [Hus] <;> iassumption

theorem bar_deal (Φ : GSem nD τ sig → sProp 𝕄) : bigSep barCells Φ = bigSep Finset.univ fun c : Dev nD => Φ (barCell c) :=
  bigSep_map (s := Finset.univ) barEmb (Φ := Φ)
theorem step_deal (Φ : GSem nD τ sig → sProp 𝕄) : bigSep stepCells Φ
    = bigSep Finset.univ fun c : Dev nD => iprop(bigSep Finset.univ (fun s => Φ (sendCell s c)) ∗ bigSep Finset.univ (fun s => Φ (recvCell s c))) := by
  rw [bigSep_map, bigSep_univ_prod]
  refine bigSep_congr fun c _ => ?_
  rw [bigSep_univ_prod, BI.bigSep_fin_two]
  rfl

/-- All the devices' shares. -/
theorem shares : (bigSep Finset.univ fun c : Dev nD => iprop(unscopedBufs c (fun b => m ((c : Thread nD τ).loc b)) ∗ unscopedSems0 c
      ∗ owes (c : Thread nD τ) (O₀ c) ∅ ∗ Pipeline.launchCred O₀ c ∗ prngReg c (ρ c) ∗ G c))
    ⊢ (bigSep Finset.univ fun c : Dev nD => iprop(holdings m c ∗ (semVal (barCell c) 0 ∗ G c)) : sProp 𝕄) :=
  bigSep_mono fun c _ => core_share m ρ c

/-- The launch: every device gets what it holds when the program begins. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (atStart m) : sProp 𝕄) := by
  iintro ⟨H, -⟩
  ihave H' := (shares m ρ) $$ H
  ihave H2 := families_split $$ H'; icases H2 with ⟨HB, H3⟩
  ihave H4 := families_split $$ H3; icases H4 with ⟨Hv, HG⟩
  ihave Hu := (Entails.of_eq (G_all (F := F))) $$ HG
  imod (Rounds.fund_launch ER (rd (parts m)) disjoint_cells (fun g _ h => h) tokens) $$ [Hv Hu] with ⟨%κ, -, #Hinv, #Hr, Hat, Hopen, Htok⟩
  · isplitl [Hv]
    · iapply (Entails.of_eq (bar_deal (F := F) fun g => semVal g 0).symm) $$ Hv
    · iexact Hu
  imodintro
  iapply (bigSep_with_persistent (R := records m κ) (Φ := fun c => iprop(rights c ∗ holdings m c)) fun c _ => start_intro m κ c)
  isplitr
  · unfold records
    isplitr; · iexact Hinv
    iexact Hr
  iapply families_join
  isplitr [HB]
  · unfold rights
    iapply families_join; isplitl [Hat]; · iapply (Entails.of_eq (bar_deal (F := F) fun g => atPos ER g 0 ∅ 0)) $$ Hat
    iapply families_join; isplitl [Hopen]; · iapply (Entails.of_eq (step_deal (F := F) fun g => openTok ER g)) $$ Hopen
    iapply (Entails.of_eq (tokens_around (F := F))) $$ Htok
  · iexact HB

/-! ## The run -/

theorem unscoped_eq : ∀ sm : SemLoc sig, sm.isScoped .tc = false → sm = .reg barrier0 := by decide

/-- What the final memory of device `c` is known to hold. -/
def AtEnd (c : Dev nD) (s : MemSt nD τ sig (Elt F)) : Prop :=
  (s.mem ((c.tc : Thread nD τ).loc main_v21) = V3 m (outs m) c main_v21
    ∧ s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4))

/-- What a device holds at the end, read off the final state. -/
theorem read_end (c : Dev nD) (s' : Phys nD τ sig (Elt F)) :
    iprop((StableHlo.held (c : Thread nD τ) (Pipeline.ucRefs τ sig) (V3 m (outs m) c) ∗ semVal (barCell c) 0) ∗ SI s')
      ⊢ (|={Set.univ}=> iprop(⌜AtEnd m c s'.mem ∧ s'.mem.sem (barCell c) = 0⌝ ∗ SI s') : sProp 𝕄) := by
  unfold StableHlo.held
  iintro ⟨⟨Hh, Hb0⟩, HSI⟩
  icombine HSI Hb0 gives %hb
  ihave Hr := (pointsTo_read_all (Pipeline.ucRefs τ sig) (fun b => ((c : Thread nD τ).1, b)) (V3 m (outs m) c) s') $$ [Hh HSI]
  · isplitl [Hh] <;> iassumption
  icases Hr with ⟨%h, HSI⟩
  imodintro
  isplitr
  · ipureintro
    have hr (r : Ref sig .tc) (hs : ¬ (Proc.devRef .tc r : DevRef τ sig).isScoped) := h (Proc.devRef .tc r) (Finset.mem_filter.mpr ⟨StableHlo.devRef_mem_tcRefs r, hs⟩)
    exact ⟨⟨hr main_v21 (by decide), (hr main_arg0 (by decide)).trans (V3_main_arg0 m (outs m) c), (hr main_arg1 (by decide)).trans (V3_main_arg1 m (outs m) c),
      (hr main_arg2 (by decide)).trans (V3_main_arg2 m (outs m) c), (hr main_arg3 (by decide)).trans (V3_main_arg3 m (outs m) c),
      (hr main_arg4 (by decide)).trans (V3_main_arg4 m (outs m) c)⟩, by simpa using hb⟩
  · iexact HSI

/-- The rests of a device's holdings before and after the call. -/
def rests : Fin 2 → Dev nD → sProp 𝕄 := ![restPre m, restPost]

set_option backward.isDefEq.respectTransparency.types false in
/-- The run: from any memory with zero counters every weakly fair execution terminates; on every device the result
    buffer ends at the reshaped end of the exchange and the arguments end as launched; every counter ends at zero. -/
theorem run_main : θ_run defs (onTc (τ := τ) (main (F := F))) ⟨m, fun _ => 0, ρ⟩
    (fun r => (∀ c : Dev nD, AtEnd m c r.2) ∧ r.2.sem = fun _ => 0) := by
  refine Pipeline.θ_run_regions_kit_dev_sems (pcfgs (F := F)) adm (pdats m) () cellOf_inj EP defs₀ 𝒱₀ L lv m ρ main
    (segs m (outs m) 𝒱₀ L lv (rests m) () (pdats m) (reg m))
    (fun c Q => by
      rewrite [main_chain c, Seg.run_eq_chain,
        show (segs m (outs m) 𝒱₀ L lv (rests m) () (pdats m) (reg m) c).map Seg.prog = [
          StableHlo.seq (hostOps0 c),
          Prog.lift (.customCall (Pipeline.entry 0) ()),
          StableHlo.seq hostOps1 ] from rfl]
      dsimp (config := { failIfUnchanged := false }) only
      exact .rfl)
    (fun c => by simp only [segs, Seg.pipes_host, Seg.pipes_region, Seg.pipes_nil]; decide) O₀ L_of_ne G (u₀ (F := F))
    (by
      unfold u₀
      iintro Hu
      ihave H := (ownU_pair _ _) $$ Hu
      icases H with ⟨HP, HX⟩
      imodintro
      isplitl [HP]; · iexact HP
      rw [G_all]; iexact HX)
    (T₀ := atStart m)
    (Tₙ := fun c => iprop(StableHlo.held (c : Thread nD τ) (Pipeline.ucRefs τ sig) (V3 m (outs m) c) ∗ semVal (barCell c) 0))
    (hch := fun c => ⟨.rfl, reg_pre m c, reg_post m c, ?_⟩)
    (hinit := init m ρ)
    (QY := fun c s => AtEnd m c s ∧ s.sem (barCell c) = 0)
    (hfin := read_end m)
    (hQ := fun s h hs => ⟨fun c => (h c).1, sem_eq_zero hs fun c sm hsm => by
      obtain rfl := unscoped_eq sm hsm
      exact (h c).2⟩)
  show iprop(StableHlo.held (c : Thread nD τ) (Pipeline.ucRefs τ sig) (V3 m (outs m) c)
      ∗ (semVal (barCell c) 0 ∗ ∃ W, owes (c : Thread nD τ) (0 : CellTallies nD τ sig Unit) W))
    ⊢ iprop((StableHlo.held (c : Thread nD τ) (Pipeline.ucRefs τ sig) (V3 m (outs m) c) ∗ semVal (barCell c) 0)
      ∗ ∃ W, owes (c : Thread nD τ) (0 : CellTallies nD τ sig Unit) W)
  iintro ⟨Hh, Hb, HO⟩
  isplitr [HO]
  · isplitl [Hh] <;> iassumption
  · iexact HO

end Cert.KernelIdeal.Exchange

end
-- ==== Proof.Formula.lean ====
module

public import Idealize.ShloMosaic.Lib.Pointwise

@[expose] public section

/-!
# The attention of one head, as a formula

Masked softmax attention of one head over the extended reals, entry by entry: both programs' terms are read at an index
and found to be this.
-/

noncomputable section

namespace Cert.Attention

open Idealize.ShloMosaic
open scoped BigOperators

/-- Whether position `i` sees position `j`: they are at most 128 apart, or one of them is among the first 32. -/
def seen (i j : Fin 512) : BitVec 1 :=
  IntOp.ori
    (IntOp.ori (IntOp.cmpi .sle (IntOp.absi (IntOp.subi (BitVec.ofNat 32 i.val) (BitVec.ofNat 32 j.val))) 128#32) (IntOp.cmpi .slt (BitVec.ofNat 32 j.val) 32#32))
    (IntOp.cmpi .slt (BitVec.ofNat 32 i.val) 32#32)

/-- A head's matrix: 512 positions of 64 entries. -/
abbrev Head : Type := Fin 512 → Fin 64 → EReal

/-- The masked, scaled score of `i` against `j`. -/
def score (q k : Head) (i j : Fin 512) : EReal :=
  Scalar.select (seen i j) ((∑ e : Fin 64, q i e * k j e) * Ideal.ofBits .f32 0x3E000000#32) (Ideal.ofBits .f32 0xCE6E6B28#32)

/-- The greatest score of a row. -/
def top (q k : Head) (i : Fin 512) : EReal := Finset.univ.fold max (Ideal.ofBits .f32 0xFF800000#32) (fun j : Fin 512 => score q k i j)

/-- The exponential of a score less the greatest. -/
def weight (q k : Head) (i j : Fin 512) : EReal := Ideal.exp (score q k i j - top q k i)

/-- The head's context: the values, weighted. -/
def attend (q k v : Head) (i : Fin 512) (d : Fin 64) : EReal :=
  ∑ j : Fin 512, Ideal.div (weight q k i j) (∑ l : Fin 512, weight q k i l) * v j d

/-! ## The whole attention -/

/-- The model's arrays: activations, query projection, keys or values, output projection. -/
abbrev Acts : Type := (⟨3, ![2, 512, 768]⟩ : Shape).Idx → EReal
abbrev ProjQ : Type := (⟨2, ![768, 8192]⟩ : Shape).Idx → EReal
abbrev Cache : Type := (⟨4, ![2, 512, 128, 64]⟩ : Shape).Idx → EReal
abbrev ProjO : Type := (⟨2, ![8192, 768]⟩ : Shape).Idx → EReal

/-- The queries of one head, -/
def qHead (x : Acts) (w : ProjQ) (b : Fin 2) (h : Fin 128) : Head :=
  fun i e => ∑ l : Fin 768, x (ix3 b i l) * w (ix2 l (⟨h.val * 64 + e.val, by have := h.isLt; have := e.isLt; omega⟩ : Fin 8192))
/-- and its keys or values. -/
def kvHead (k : Cache) (b : Fin 2) (h : Fin 128) : Head := fun j e => k (ix4 b j h e)

/-- The head of a column of the context, -/
def headNo (n : Fin 8192) : Fin 128 := ⟨n.val / 64, by have := n.isLt; omega⟩
/-- and the column's place in it. -/
def headPlace (n : Fin 8192) : Fin 64 := ⟨n.val % 64, Nat.mod_lt _ (by decide)⟩

/-- One entry of the context of all heads, -/
def contextAt (x : Acts) (w : ProjQ) (k v : Cache) (b : Fin 2) (i : Fin 512) (n : Fin 8192) : EReal :=
  attend (qHead x w b (headNo n)) (kvHead k b (headNo n)) (kvHead v b (headNo n)) i (headPlace n)
/-- and one entry of the result. -/
def resultAt (x : Acts) (w : ProjQ) (k v : Cache) (o : ProjO) (b : Fin 2) (i : Fin 512) (e : Fin 768) : EReal :=
  ∑ n : Fin 8192, contextAt x w k v b i n * o (ix2 n e)

/-- Every position sees position 0. -/
theorem seen_zero (i : Fin 512) : seen i 0 = 1#1 := by revert i; decide

end Cert.Attention
-- ==== Proof.Head.lean ====
module

public import proofs.«01_k».proof.Proof.Attn
public import proofs.«01_k».proof.Proof.Formula

@[expose] public section

/-!
# One device's partial result at an index

The kernel's own terms read at an index: a head is the masked softmax attention of `Formula`, and a device's output block
is the sum, over the columns of its eight heads, of the context times the output projection.
-/

set_option maxRecDepth 16384

noncomputable section

namespace Cert.KernelIdeal.Exchange

open Idealize.ShloMosaic
open Cert.KernelIdeal Cert.KernelIdeal.Gen Cert.Attention
open scoped BigOperators

/-- A matrix of a head, by rows and columns. -/
def asHead (q : FVec Ideal S512x64 .bf16) : Head := fun i e => q (ix2 i e)

theorem mask_at (i j : Fin 512) : (k0_pay2 : IVec S512x512 1) (ix2 i j) = seen i j := by
  pointwise [k0_pay2, seen]

/-- One head is the attention of its queries, keys and values. -/
theorem headFn_at (q k v : FVec Ideal S512x64 .bf16) (i : Fin 512) (d : Fin 64) :
    headFn q k v (ix2 i d) = attend (asHead q) (asHead k) (asHead v) i d := by
  pointwise [headFn, attend, weight, top, score, asHead, mask_at]

theorem query_at (x : Vec Ideal S1x512x768 .bf16) (w : Vec Ideal S768x512 .bf16) (i j : Fin 512) :
    k0_pay3 x w (ix2 i j) = ∑ l : Fin 768, (x (ix3 0 i l) * w (ix2 l j) : EReal) := by
  pointwise [k0_pay3]

theorem output_at (x : Vec Ideal S512x512 .bf16) (w : Vec Ideal S512x768 .bf16) (i : Fin 512) (e : Fin 768) :
    k0_pay20 x w (ix2 i e) = ∑ j : Fin 512, (x (ix2 i j) * w (ix2 j e) : EReal) := by
  pointwise [k0_pay20]

theorem cast_at (x : FVec Ideal S1x512x1x64 .bf16) (i : Fin 512) (j : Fin 64) :
    shapeCast S512x64 x shapeCasts_S1x512x1x64_S512x64 (ix2 i j) = x (ix4 0 i 0 j) := by
  pointwise

theorem slice_at (x : FVec Ideal S512x512 .bf16) (h : Fin 8) (i : Fin 512) (e : Fin 64) :
    extractStridedSlice S512x64 ![0, 64 * h.val] x (slices_head h) (ix2 i e) = x (ix2 i ⟨64 * h.val + e.val, by have := h.isLt; have := e.isLt; omega⟩) := by
  pointwise

/-- A device's inputs as arrays of extended reals: activations, query projection, keys, values, output projection. -/
def inX (I : Ins Ideal) : S2x512x768.Idx → EReal := I.x
def inWq (I : Ins Ideal) : S768x512.Idx → EReal := I.wq
def inK (I : Ins Ideal) : S2x512x8x64.Idx → EReal := I.k
def inV (I : Ins Ideal) : S2x512x8x64.Idx → EReal := I.v
def inWo (I : Ins Ideal) : S512x768.Idx → EReal := I.wo

/-- The queries of one of the device's heads, -/
def ownQ (I : Ins Ideal) (b : Fin 2) (h : Fin 8) : Head :=
  fun i e => ∑ l : Fin 768, inX I (ix3 b i l) * inWq I (ix2 l (⟨64 * h.val + e.val, by have := h.isLt; have := e.isLt; omega⟩ : Fin 512))
/-- its keys, -/
def ownK (I : Ins Ideal) (b : Fin 2) (h : Fin 8) : Head := fun j e => inK I (ix4 b j h e)
/-- and its values. -/
def ownV (I : Ins Ideal) (b : Fin 2) (h : Fin 8) : Head := fun j e => inV I (ix4 b j h e)

/-- One head's context. -/
theorem headOf_at (I : Ins Ideal) (b : Fin 2) (h : Fin 8) (i : Fin 512) (d : Fin 64) :
    headOf I b h (ix2 i d) = attend (ownQ I b h) (ownK I b h) (ownV I b h) i d := by
  have hq : asHead (extractStridedSlice S512x64 ![0, 64 * h.val] (qOf I b) (slices_head h)) = ownQ I b h :=
    funext fun i => funext fun e => (slice_at _ h i e).trans (query_at _ _ i _)
  have hk : asHead (shapeCast S512x64 (kRd I b h) shapeCasts_S1x512x1x64_S512x64) = ownK I b h := funext fun i => funext fun e => cast_at _ i e
  have hv : asHead (shapeCast S512x64 (vRd I b h) shapeCasts_S1x512x1x64_S512x64) = ownV I b h := funext fun i => funext fun e => cast_at _ i e
  exact (headFn_at _ _ _ i d).trans (by rw [hq, hk, hv])

/-- One output block. -/
theorem blockOf_at (I : Ins Ideal) (b : Fin 2) (i : Fin 512) (e : Fin 768) :
    blockOf I b (ix2 i e) = ∑ j : Fin 512, attend (ownQ I b (headIx j)) (ownK I b (headIx j)) (ownV I b (headIx j)) i (headCol j) * inWo I (ix2 j e) :=
  (output_at _ _ i e).trans (Finset.sum_congr rfl fun j _ => congrArg (fun z : EReal => z * inWo I (ix2 j e)) (headOf_at I b (headIx j) i (headCol j)))

end Cert.KernelIdeal.Exchange
-- ==== Proof.Host.lean ====
module

public import proofs.«01_k».proof.Proof.Region
public import proofs.«01_k».proof.Proof.Head
public import Idealize.ShloMosaic.Lib.StableHlo.ReadAt
public import Idealize.ShloMosaic.Lib.DynamicIndex

@[expose] public section

/-!
# The host program around the call

What a device's call is given, at an index of the program's arguments: the activations and the device's blocks of the two
projections as they are, and the keys and values of the device's own eight heads, which the host slices out. And the
program's result: the call's, its rows grouped by batch entry.
-/

set_option maxRecDepth 16384

noncomputable section

namespace Cert.KernelIdeal.Exchange

open Idealize.ShloMosaic Idealize.ShloMosaic.TcCoe
open Cert.KernelIdeal Cert.KernelIdeal.Gen

variable (m : (ℓ : Loc nD τ sig) → Buf (Elt Ideal) ℓ)

/-! ## The operands passed whole -/

theorem x_at (c : Dev nD) : inX (insOf m c) = m ((c : Thread nD τ).loc main_arg0) := by
  show V1 m c main_v17 = _
  unfold V1
  after_reads_simp
  rfl
theorem wq_at (c : Dev nD) : inWq (insOf m c) = m ((c : Thread nD τ).loc main_arg1) := by
  show V1 m c main_v18 = _
  unfold V1
  after_reads_simp
  rfl
theorem wo_at (c : Dev nD) : inWo (insOf m c) = m ((c : Thread nD τ).loc main_arg4) := by
  show V1 m c main_v19 = _
  unfold V1
  after_reads_simp
  rfl

/-! ## The device's heads -/

/-- The first of the device's heads, as the host computes it. -/
def headStart (c : Dev nD) : IVec S_ 32 :=
  let n : IVec S_ 32 := muli (id (Host.remui (Host.divui (constantI S_ 32 (Dev.word c)) (constantI S_ 32 1#32)) (constantI S_ 32 16#32))) (constantI S_ 32 8#32)
  select (cmpi .slt n (constantI S_ 32 0#32)) (addi n (constantI S_ 32 128#32)) n

/-- It is eight times the device's number. -/
theorem headStart_toInt (c : Dev nD) (j : S_.Idx) : (headStart c j).toInt = ((8 * c.val : ℕ) : ℤ) := by
  have h : ∀ d : Fin 16, (Scalar.select (IntOp.cmpi .slt (BitVec.ofNat 32 d.val / 1#32 % 16#32 * 8#32) 0#32) (BitVec.ofNat 32 d.val / 1#32 % 16#32 * 8#32 + 128#32)
      (BitVec.ofNat 32 d.val / 1#32 % 16#32 * 8#32)).toInt = ((8 * d.val : ℕ) : ℤ) := by decide
  exact h c

theorem slices_heads (c : Dev nD) : S2x512x128x64.Slices ![0, 0, 8 * c.val, 0] S2x512x8x64 := by revert c; decide

/-- The slice at the device's heads, at an index. -/
theorem slice_heads_at (c : Dev nD) (x : S2x512x128x64.Idx → EReal) (b : Fin 2) (j : Fin 512) (h : Fin 8) (e : Fin 64) :
    extractStridedSlice S2x512x8x64 ![0, 0, 8 * c.val, 0] x (slices_heads c) (ix4 b j h e)
      = x (ix4 b j (⟨8 * c.val + h.val, by have : c.val < 16 := c.isLt; have := h.isLt; omega⟩ : Fin 128) e) := by
  pointwise

/-- The host's buffers after its first `n` operations. -/
abbrev hostAt (n : ℕ) (c : Dev nD) : Valuation τ sig (Elt Ideal) := StableHlo.upto (hostOps0 c) (V0 m c) n

theorem hostAt_c4 (c : Dev nD) : hostAt m 17 c (Proc.devRef .tc main_c_4) = constantI S_ 32 0#32 := by unfold hostAt; after_reads_simp
theorem hostAt_c5 (c : Dev nD) : hostAt m 17 c (Proc.devRef .tc main_c_5) = constantI S_ 32 0#32 := by unfold hostAt; after_reads_simp
theorem hostAt_c6 (c : Dev nD) : hostAt m 17 c (Proc.devRef .tc main_c_6) = constantI S_ 32 0#32 := by unfold hostAt; after_reads_simp
theorem hostAt_v9 (c : Dev nD) : hostAt m 17 c (Proc.devRef .tc main_v9) = headStart c := by unfold hostAt; after_reads_simp; rfl
theorem hostAt_c10 (c : Dev nD) : hostAt m 29 c (Proc.devRef .tc main_c_10) = constantI S_ 32 0#32 := by unfold hostAt; after_reads_simp
theorem hostAt_c11 (c : Dev nD) : hostAt m 29 c (Proc.devRef .tc main_c_11) = constantI S_ 32 0#32 := by unfold hostAt; after_reads_simp
theorem hostAt_c12 (c : Dev nD) : hostAt m 29 c (Proc.devRef .tc main_c_12) = constantI S_ 32 0#32 := by unfold hostAt; after_reads_simp
theorem hostAt_v15 (c : Dev nD) : hostAt m 29 c (Proc.devRef .tc main_v15) = headStart c := by unfold hostAt; after_reads_simp; rfl

/-- The keys a device is given: the slice at its heads, -/
theorem k_slice (c : Dev nD) : V1 m c main_v10 = extractStridedSlice S2x512x8x64 ![0, 0, 8 * c.val, 0] (m ((c : Thread nD τ).loc main_arg2)) (slices_heads c) := by
  unfold V1
  after_reads_simp
  refine Host.dynamicSlice_eq_extractStridedSlice _ _ _ _ _ (slices_heads c) fun a => ?_
  match a with
  | 0 => exact congrArg BitVec.toInt (congrFun (hostAt_c4 m c) (Shape.Idx.first h_S_))
  | 1 => exact congrArg BitVec.toInt (congrFun (hostAt_c5 m c) (Shape.Idx.first h_S_))
  | 2 => exact (congrArg BitVec.toInt (congrFun (hostAt_v9 m c) (Shape.Idx.first h_S_))).trans (headStart_toInt c _)
  | 3 => exact congrArg BitVec.toInt (congrFun (hostAt_c6 m c) (Shape.Idx.first h_S_))
/-- and at an index. -/
theorem k_at (c : Dev nD) (b : Fin 2) (j : Fin 512) (h : Fin 8) (e : Fin 64) :
    inK (insOf m c) (ix4 b j h e) = m ((c : Thread nD τ).loc main_arg2) (ix4 b j (⟨8 * c.val + h.val, by have : c.val < 16 := c.isLt; have := h.isLt; omega⟩ : Fin 128) e) :=
  (congrFun (k_slice m c) (ix4 b j h e)).trans (slice_heads_at c _ b j h e)

/-- The values a device is given: the slice at its heads, -/
theorem v_slice (c : Dev nD) : V1 m c main_v16 = extractStridedSlice S2x512x8x64 ![0, 0, 8 * c.val, 0] (m ((c : Thread nD τ).loc main_arg3)) (slices_heads c) := by
  unfold V1
  after_reads_simp
  refine Host.dynamicSlice_eq_extractStridedSlice _ _ _ _ _ (slices_heads c) fun a => ?_
  match a with
  | 0 => exact congrArg BitVec.toInt (congrFun (hostAt_c10 m c) (Shape.Idx.first h_S_))
  | 1 => exact congrArg BitVec.toInt (congrFun (hostAt_c11 m c) (Shape.Idx.first h_S_))
  | 2 => exact (congrArg BitVec.toInt (congrFun (hostAt_v15 m c) (Shape.Idx.first h_S_))).trans (headStart_toInt c _)
  | 3 => exact congrArg BitVec.toInt (congrFun (hostAt_c12 m c) (Shape.Idx.first h_S_))
/-- and at an index. -/
theorem v_at (c : Dev nD) (b : Fin 2) (j : Fin 512) (h : Fin 8) (e : Fin 64) :
    inV (insOf m c) (ix4 b j h e) = m ((c : Thread nD τ).loc main_arg3) (ix4 b j (⟨8 * c.val + h.val, by have : c.val < 16 := c.isLt; have := h.isLt; omega⟩ : Fin 128) e) :=
  (congrFun (v_slice m c) (ix4 b j h e)).trans (slice_heads_at c _ b j h e)

/-! ## The result -/

/-- The row of the call's result that holds position `i` of batch entry `b`. -/
def batchRow (b : Fin 2) (i : Fin 512) : Fin 1024 := ⟨b.val * 512 + i.val, by have := b.isLt; have := i.isLt; omega⟩

/-- The program's result is the call's. -/
theorem out_at (c : Dev nD) (b : Fin 2) (i : Fin 512) (e : Fin 768) : V3 m (outs m) c main_v21 (ix3 b i e) = outSt (parts m) 8 c (ix2 (batchRow b i) e) := by
  have h : V2 m (outs m) c main_v20 = outSt (parts m) 8 c := (Function.update_self ..).trans (outs_out m c)
  unfold V3
  after_reads_at
  exact congrFun h (ix2 (batchRow b i) e)

end Cert.KernelIdeal.Exchange
-- ==== Proof.Sum.lean ====
module

public import proofs.«01_k».proof.Proof.Proto
public import Idealize.ShloMosaic.PureOps.Ideal.Laws

@[expose] public section

/-!
# What the exchange computes over the extended reals

The eight steps leave, on every device and at every place, the sum of the sixteen partial results. Before step `n` of
the first four, the rows a device still holds carry the sum over the devices that agree with it in all but the lowest
`n` bits of the number; after the fourth they carry the whole sum, and each later step doubles the rows that do. Rows
are followed in sixteen bands of 64; where a band lies is decided, band by band, step by step, device by device.
-/

set_option maxRecDepth 16384

noncomputable section

namespace Cert.KernelIdeal.Exchange

open Idealize.ShloMosaic
open Cert.KernelIdeal Cert.KernelIdeal.Gen

/-- Whether `c` holds band `q` before step `n`: the bits of `c` that have chosen among the halves agree with the band's. -/
def held (n : ℕ) (c : Dev nD) (q : Fin 16) : Prop := ∀ k : Fin 4, k.val < n → n + k.val < 8 → (c.val.testBit k.val = q.val.testBit (3 - k.val))

instance (n : ℕ) (c : Dev nD) (q : Fin 16) : Decidable (held n c q) := by unfold held; infer_instance

/-- Whether the rows that `c` rewrites in step `s` contain band `q`. -/
def rewritten (s : Fin 8) (c : Dev nD) (q : Fin 16) : Prop := offD s c ≤ 64 * q.val ∧ 64 * q.val + 64 ≤ offD s c + rows s

instance (s : Fin 8) (c : Dev nD) (q : Fin 16) : Decidable (rewritten s c q) := by unfold rewritten; infer_instance

/-- The devices whose partial results `c` has added up before step `n`. -/
def group (n : ℕ) (c : Dev nD) : Finset (Dev nD) := Finset.univ.filter fun d => d.val / 2 ^ min n 4 = c.val / 2 ^ min n 4

/-- A band lies wholly inside the rows rewritten or wholly outside. -/
theorem band_cut : ∀ (s : Fin 8) (c : Dev nD), 64 ∣ offD s c ∧ 64 ∣ rows s := by decide +kernel

/-- The partner sends the rows that are rewritten. -/
theorem off_partner : ∀ (s : Fin 8) (c : Dev nD), offS s (pt s c) = offD s c := by decide +kernel

/-- In a halving step the bands that stay held are rewritten, and were held by the device and by its partner. -/
theorem held_halving : ∀ (s : Fin 8) (c : Dev nD) (q : Fin 16), s.val < 4 → held (s.val + 1) c q → rewritten s c q ∧ held s.val c q ∧ held s.val (pt s c) q := by
  decide +kernel

/-- In a doubling step a band newly held was the partner's, and one not rewritten was the device's own. -/
theorem held_doubling : ∀ (s : Fin 8) (c : Dev nD) (q : Fin 16), 4 ≤ s.val → held (s.val + 1) c q →
    (rewritten s c q → held s.val (pt s c) q) ∧ (¬ rewritten s c q → held s.val c q) := by
  decide +kernel

/-- In a halving step the two partners' groups are merged, -/
theorem group_halving : ∀ (s : Fin 8) (c : Dev nD), s.val < 4 → Disjoint (group s.val c) (group s.val (pt s c)) ∧ group (s.val + 1) c = group s.val c ∪ group s.val (pt s c) := by
  decide +kernel
/-- and from the fourth step on a group is all devices. -/
theorem group_full (n : ℕ) (h : 4 ≤ n) (c : Dev nD) : group n c = Finset.univ := by
  unfold group
  rw [Nat.min_eq_right h]
  revert c; decide

/-- Before the first step a group is the device alone. -/
theorem group_zero (c : Dev nD) : group 0 c = {c} := by revert c; decide

/-- Before the first step every band is held, -/
theorem held_zero (c : Dev nD) (q : Fin 16) : held 0 c q := fun _ h => absurd h (Nat.not_lt_zero _)
/-- and after the last again. -/
theorem held_last (c : Dev nD) (q : Fin 16) : held 8 c q := fun _ _ h => absurd h (by omega)

/-- The row that the partner sends for a row that is rewritten is that row. -/
theorem ix_partner (s : Fin 8) (c : Dev nD) (i : S1024x768.Idx) (h : offD s c ≤ (i 0).val) :
    ix (rowOf (offS s (pt s c) + ((i 0).val - offD s c))) (i 1) = i := by
  rw [off_partner, Nat.add_sub_cancel' h]
  have h0 : (i 0).val < 1024 := (i 0).isLt
  funext a
  match a with
  | 0 => exact Fin.ext (Nat.mod_eq_of_lt h0)
  | 1 => rfl

/-- A place is rewritten exactly when its band is. -/
theorem rewritten_iff (s : Fin 8) (c : Dev nD) (q : Fin 16) (i : S1024x768.Idx) (hq : (i 0).val / 64 = q.val) :
    (offD s c ≤ (i 0).val ∧ (i 0).val < offD s c + rows s) ↔ rewritten s c q := by
  obtain ⟨⟨a, ha⟩, b, hb⟩ := band_cut s c
  unfold rewritten
  rw [ha, hb]
  omega

/-- The number that a partial result, or a state of the exchange, holds at a place. -/
def entry (X : Part Ideal) (i : S1024x768.Idx) : EReal := X i

/-- THE EXCHANGE ADDS UP: before step `n`, at a place in a band that device `c` holds, its state is the sum of the
    partial results of its group there. -/
theorem outSt_sum (P : Dev nD → Part Ideal) (n : ℕ) (hn : n ≤ 8) : ∀ (c : Dev nD) (q : Fin 16) (i : S1024x768.Idx), held n c q → (i 0).val / 64 = q.val →
    entry (outSt P n c) i = ∑ d ∈ group n c, entry (P d) i := by
  induction n with
  | zero =>
    intro c q i _ _
    rw [group_zero, Finset.sum_singleton]
    rfl
  | succ n ih =>
    intro c q i hh hq
    have ih := ih (by omega)
    obtain ⟨s, rfl⟩ : ∃ s : Fin 8, s.val = n := ⟨⟨n, by omega⟩, rfl⟩
    have hcut := rewritten_iff s c q i hq
    have hmsg : offD s c ≤ (i 0).val → (msg s (outSt P s.val) (pt s c) ((i 0).val - offD s c) (i 1) : EReal) = entry (outSt P s.val (pt s c)) i := fun h =>
      congrArg (entry (outSt P s.val (pt s c))) (ix_partner s c i h)
    rw [outSt_succ]
    unfold entry next
    show (_ : EReal) = ∑ d ∈ group (s.val + 1) c, entry (P d) i
    by_cases hs : s.val < 4
    · obtain ⟨hr, h1, h2⟩ := held_halving s c q hs hh
      obtain ⟨hd, hu⟩ := group_halving s c hs
      rw [if_pos (hcut.mpr hr), if_pos hs]
      show entry (outSt P s.val c) i + msg s (outSt P s.val) (pt s c) ((i 0).val - offD s c) (i 1) = _
      rw [hmsg (hcut.mpr hr).1, ih c q i h1 hq, ih (pt s c) q i h2 hq, hu, Finset.sum_union hd]
    · obtain ⟨h1, h2⟩ := held_doubling s c q (Nat.le_of_not_lt hs) hh
      rw [group_full _ (by omega)]
      by_cases hr : rewritten s c q
      · rw [if_pos (hcut.mpr hr), if_neg hs]
        refine (hmsg (hcut.mpr hr).1).trans ((ih (pt s c) q i (h1 hr) hq).trans ?_)
        rw [group_full _ (by omega)]
      · rw [if_neg (fun h => hr (hcut.mp h))]
        refine (ih c q i (h2 hr) hq).trans ?_
        rw [group_full _ (by omega)]

/-- After the last step every device holds, at every place, the sum of the sixteen partial results. -/
theorem outSt_last (P : Dev nD → Part Ideal) (c : Dev nD) (i : S1024x768.Idx) : entry (outSt P 8 c) i = ∑ d, entry (P d) i := by
  have h0 : (i 0).val < 1024 := (i 0).isLt
  have := outSt_sum P 8 le_rfl c ⟨(i 0).val / 64, by omega⟩ i (held_last c _) rfl
  rwa [group_full _ (by omega)] at this

end Cert.KernelIdeal.Exchange
-- ==== Proof.Value.lean ====
module

public import proofs.«01_k».proof.Proof.Host
public import proofs.«01_k».proof.Proof.Sum
public import Idealize.ShloMosaic.Lib.Layout

@[expose] public section

/-!
# The kernel's result is the attention's

The sum over the sixteen devices of their partial results, each a sum over the 512 columns of the device's heads, is the
sum over all 8192 columns of the context.
-/

set_option maxRecDepth 16384

noncomputable section

namespace Cert.KernelIdeal.Exchange

open Idealize.ShloMosaic Idealize.ShloMosaic.TcCoe
open Cert.KernelIdeal Cert.KernelIdeal.Gen Cert.Attention
open scoped BigOperators

/-- Column `j` of device `d`, among all columns of the context. -/
def colOf (d : Fin 16) (j : Fin 512) : Fin 8192 := ⟨d.val * 512 + j.val, by have := d.isLt; have := j.isLt; omega⟩
/-- Head `h` of device `d`, among all heads. -/
def headAll (d : Fin 16) (h : Fin 8) : Fin 128 := ⟨8 * d.val + h.val, by have := d.isLt; have := h.isLt; omega⟩

theorem headNo_col (d : Fin 16) (j : Fin 512) : headNo (colOf d j) = headAll d (headIx j) := Fin.ext (by
  show (d.val * 512 + j.val) / 64 = 8 * d.val + j.val / 64; omega)
theorem headPlace_col (d : Fin 16) (j : Fin 512) : headPlace (colOf d j) = headCol j := Fin.ext (by
  show (d.val * 512 + j.val) % 64 = j.val % 64; omega)

/-- The columns of the sixteen devices are all the columns. -/
def cols : Fin 16 × Fin 512 ≃ Fin 8192 where
  toFun x := colOf x.1 x.2
  invFun n := (⟨n.val / 512, by have := n.isLt; omega⟩, ⟨n.val % 512, Nat.mod_lt _ (by decide)⟩)
  left_inv x := Prod.ext (Fin.ext (by show (x.1.val * 512 + x.2.val) / 512 = x.1.val; have := x.2.isLt; omega))
    (Fin.ext (by show (x.1.val * 512 + x.2.val) % 512 = x.2.val; have := x.2.isLt; omega))
  right_inv n := Fin.ext (by show n.val / 512 * 512 + n.val % 512 = n.val; omega)

theorem sum_cols (f : Fin 8192 → EReal) : ∑ d : Fin 16, ∑ j : Fin 512, f (colOf d j) = ∑ n : Fin 8192, f n :=
  (Fintype.sum_prod_type' fun d j => f (colOf d j)).symm.trans (Equiv.sum_comp cols f)

/-- A device's block of the query projection, -/
theorem block_wq (d : Fin 16) (w : ProjQ) (l : Fin 768) (n : Fin 512) :
    Layout.block (⟨2, ![768, 512]⟩ : Shape) (⟨2, ![768, 8192]⟩ : Shape) 1 16 d w (by decide) (ix2 l n) = w (ix2 l (colOf d n)) :=
  (Layout.block_apply ..).trans (congrArg w (funext fun a => by match a with | 0 => rfl | 1 => rfl))
/-- and of the output projection. -/
theorem block_wo (d : Fin 16) (o : ProjO) (n : Fin 512) (e : Fin 768) :
    Layout.block (⟨2, ![512, 768]⟩ : Shape) (⟨2, ![8192, 768]⟩ : Shape) 0 16 d o (by decide) (ix2 n e) = o (ix2 (colOf d n) e) :=
  (Layout.block_apply ..).trans (congrArg o (funext fun a => by match a with | 0 => rfl | 1 => rfl))

variable (m : (ℓ : Loc nD τ sig) → Buf (Elt Ideal) ℓ)

/-- The devices hold the model's arrays: activations, keys and values whole, the projections by blocks. -/
structure Holds (x : Acts) (w : ProjQ) (k v : Cache) (o : ProjO) : Prop where
  x : ∀ c : Dev nD, m ((c : Thread nD τ).loc main_arg0) = x
  w : ∀ c : Dev nD, m ((c : Thread nD τ).loc main_arg1) = Layout.block (⟨2, ![768, 512]⟩ : Shape) (⟨2, ![768, 8192]⟩ : Shape) 1 16 c w (by decide)
  k : ∀ c : Dev nD, m ((c : Thread nD τ).loc main_arg2) = k
  v : ∀ c : Dev nD, m ((c : Thread nD τ).loc main_arg3) = v
  o : ∀ c : Dev nD, m ((c : Thread nD τ).loc main_arg4) = Layout.block (⟨2, ![512, 768]⟩ : Shape) (⟨2, ![8192, 768]⟩ : Shape) 0 16 c o (by decide)

variable {m} {x : Acts} {w : ProjQ} {k v : Cache} {o : ProjO}

theorem ownQ_eq (H : Holds m x w k v o) (d : Dev nD) (b : Fin 2) (h : Fin 8) : ownQ (insOf m d) b h = qHead x w b (headAll d h) := by
  funext i e
  refine Finset.sum_congr rfl fun l _ => ?_
  rw [x_at, wq_at, H.x, H.w, block_wq]
  refine congrArg (fun n => x (ix3 b i l) * w (ix2 l n)) (Fin.ext ?_)
  show d.val * 512 + (64 * h.val + e.val) = (8 * d.val + h.val) * 64 + e.val
  omega
theorem ownK_eq (H : Holds m x w k v o) (d : Dev nD) (b : Fin 2) (h : Fin 8) : ownK (insOf m d) b h = kvHead k b (headAll d h) :=
  funext fun j => funext fun e => (k_at m d b j h e).trans (congrFun (H.k d) _)
theorem ownV_eq (H : Holds m x w k v o) (d : Dev nD) (b : Fin 2) (h : Fin 8) : ownV (insOf m d) b h = kvHead v b (headAll d h) :=
  funext fun j => funext fun e => (v_at m d b j h e).trans (congrFun (H.v d) _)

/-- A device's partial result: its columns' part of the sum. -/
theorem part_at (H : Holds m x w k v o) (d : Dev nD) (b : Fin 2) (i : Fin 512) (e : Fin 768) :
    entry (parts m d) (ix2 (batchRow b i) e) = ∑ j : Fin 512, contextAt x w k v b i (colOf d j) * o (ix2 (colOf d j) e) := by
  refine (partOf_block (insOf m d) b (ix2 (batchRow b i) e) (ix2 i e) (by show b.val * 512 + i.val = 512 * b.val + i.val; omega) rfl).trans ((blockOf_at (insOf m d) b i e).trans ?_)
  refine Finset.sum_congr rfl fun j _ => ?_
  rw [ownQ_eq H, ownK_eq H, ownV_eq H, wo_at, H.o, block_wo, contextAt, headNo_col, headPlace_col]

/-- The program's result on every device: the attention's formula. -/
theorem result_at (H : Holds m x w k v o) (c : Dev nD) (b : Fin 2) (i : Fin 512) (e : Fin 768) :
    V3 m (outs m) c main_v21 (ix3 b i e) = resultAt x w k v o b i e :=
  (out_at m c b i e).trans <| (outSt_last (parts m) c (ix2 (batchRow b i) e)).trans <|
    (Finset.sum_congr rfl fun d _ => part_at H d b i e).trans (sum_cols fun n => contextAt x w k v b i n * o (ix2 n e))

end Cert.KernelIdeal.Exchange
-- ==== Proof.RefValue.lean ====
module

public import proofs.«01_k».proof.Proof.Formula
public import proofs.«01_k».proof.Proof.Gen.ReferenceIdeal.Run
public import Idealize.ShloMosaic.Lib.Routing.OpsOrder

@[expose] public section

/-!
# The reference at an index

The reference's result in stages — mask, queries, scores, weights, quotients, context, projection — each read at an
index.
-/

set_option maxRecDepth 16384

noncomputable section

namespace Cert.ReferenceIdeal.Stages

open Cert.ReferenceIdeal Cert.ReferenceIdeal.Gen Idealize.ShloMosaic Idealize.ShloMosaic.TcCoe Cert.Attention
open scoped BigOperators

/-- The mask. -/
def mask : IVec S512x512 1 :=
  ori (cmpi .sle (absi (subi (broadcastInDim S512x512 ![0, 1] bcast_S512x1_S512x512_0_1 (broadcastInDim S512x1 ![0] bcast_S512_S512x1_0 (iotaInDim S512 32 0)))
      (broadcastInDim S512x512 ![0, 1] bcast_S1x512_S512x512_0_1 (broadcastInDim S1x512 ![1] bcast_S512_S1x512_1 (iotaInDim S512 32 0)))))
      (broadcastInDim S512x512 ![] bcast_S_S512x512 (constantI S_ 32 128#32)))
    (ori (broadcastInDim S512x512 ![0, 1] bcast_S1x512_S512x512_0_1 (cmpi .slt (broadcastInDim S1x512 ![1] bcast_S512_S1x512_1 (iotaInDim S512 32 0))
        (broadcastInDim S1x512 ![] bcast_S_S1x512 (constantI S_ 32 32#32))))
      (broadcastInDim S512x512 ![0, 1] bcast_S512x1_S512x512_0_1 (cmpi .slt (broadcastInDim S512x1 ![0] bcast_S512_S512x1_0 (iotaInDim S512 32 0))
        (broadcastInDim S512x1 ![] bcast_S_S512x1 (constantI S_ 32 32#32)))))

/-- Whether a row sees anything. -/
def keep : IVec S512 1 := Host.reduce IntOp.ori mask (constantI S_ 1 0#1) reducesTo_S512x512_S512_d1 h_S_

/-- The queries, by head. -/
def queries (x : FVec Ideal S2x512x768 .f32) (wq : FVec Ideal S768x8192 .f32) : FVec Ideal S2x512x128x64 .f32 :=
  shapeCast S2x512x128x64 (Host.dotGeneral dot_S2x512x768_S768x8192_S2x512x8192_2_0_01_1_n_n none x wq) shapeCasts_S2x512x8192_S2x512x128x64

/-- The masked, scaled scores. -/
def scores (q k : FVec Ideal S2x512x128x64 .f32) : FVec Ideal S2x128x512x512 .f32 :=
  select (broadcastInDim S2x128x512x512 ![0, 1, 2, 3] bcast_S1x1x512x512_S2x128x512x512_0_1_2_3 (broadcastInDim S1x1x512x512 ![2, 3] bcast_S512x512_S1x1x512x512_2_3 mask))
    (mulf (Host.dotGeneral dot_S2x512x128x64_S2x512x128x64_S2x128x512x512_3_3_1_1_02_02 none q k) (broadcastInDim S2x128x512x512 ![] bcast_S_S2x128x512x512 (constant S_ .f32 0x3E000000#32)))
    (broadcastInDim S2x128x512x512 ![] bcast_S_S2x128x512x512 (id (constant S_ .f32 0xCE6E6B28#32)))

/-- The exponentials of the scores less each row's greatest. -/
def weights (s : FVec Ideal S2x128x512x512 .f32) : FVec Ideal S2x128x512x512 .f32 :=
  Host.exp (subf s (broadcastInDim S2x128x512x512 ![0, 1, 2, 3] bcast_S2x128x512x1_S2x128x512x512_0_1_2_3 (broadcastInDim S2x128x512x1 ![0, 1, 2] bcast_S2x128x512_S2x128x512x1_0_1_2
    (Host.reduce FloatOps.maximumf s (constant S_ .f32 0xFF800000#32) reducesTo_S2x128x512x512_S2x128x512_d3 h_S_))))

/-- The weights over each row's sum, where the row sees anything. -/
def quotients (w : FVec Ideal S2x128x512x512 .f32) : FVec Ideal S2x128x512x512 .f32 :=
  select (broadcastInDim S2x128x512x512 ![0, 1, 2, 3] bcast_S1x1x512x1_S2x128x512x512_0_1_2_3 (broadcastInDim S1x1x512x1 ![2] bcast_S512_S1x1x512x1_2 keep))
    (Host.divf w (broadcastInDim S2x128x512x512 ![0, 1, 2, 3] bcast_S2x128x512x1_S2x128x512x512_0_1_2_3
      (select (broadcastInDim S2x128x512x1 ![0, 1, 2, 3] bcast_S1x1x512x1_S2x128x512x1_0_1_2_3 (broadcastInDim S1x1x512x1 ![2] bcast_S512_S1x1x512x1_2 keep))
        (broadcastInDim S2x128x512x1 ![0, 1, 2] bcast_S2x128x512_S2x128x512x1_0_1_2 (Host.reduceAdd w (constant S_ .f32 0x00000000#32) reducesTo_S2x128x512x512_S2x128x512_d3 h_S_))
        (broadcastInDim S2x128x512x1 ![] bcast_S_S2x128x512x1 (id (constant S_ .f32 0x3F800000#32))))))
    (broadcastInDim S2x128x512x512 ![] bcast_S_S2x128x512x512 (id (constant S_ .f32 0x00000000#32)))

/-- The context, the heads side by side. -/
def context (v : FVec Ideal S2x512x128x64 .f32) (p : FVec Ideal S2x128x512x512 .f32) : FVec Ideal S2x512x8192 .f32 :=
  shapeCast S2x512x8192 (transpose S2x512x128x64 [0, 3, 1, 2] (Host.dotGeneral dot_S2x512x128x64_S2x128x512x512_S2x128x64x512_1_3_3_2_02_01 none v p)
    transposes_S2x128x64x512_S2x512x128x64_0_3_1_2) shapeCasts_S2x512x128x64_S2x512x8192

/-- The projection. -/
def project (z : FVec Ideal S2x512x8192 .f32) (wo : FVec Ideal S8192x768 .f32) : FVec Ideal S2x512x768 .f32 :=
  Host.dotGeneral dot_S2x512x8192_S8192x768_S2x512x768_2_0_01_1_n_n none z wo

/-- The reference's result is its stages composed. -/
theorem result_eq (m : (ℓ : Loc nD τ sig) → Buf (Elt Ideal) ℓ) (c : Dev nD) :
    Value.res_out0 m c = project (context (m ((c.tc : Thread nD τ).loc main_arg3)) (quotients (weights (scores (queries (m ((c.tc : Thread nD τ).loc main_arg0)) (m ((c.tc : Thread nD τ).loc main_arg1)))
      (m ((c.tc : Thread nD τ).loc main_arg2)))))) (m ((c.tc : Thread nD τ).loc main_arg4)) := rfl

/-! ## Each stage at an index -/

theorem mask_apply (i j : Fin 512) : mask (ix2 i j) = seen i j := by
  pointwise [mask, seen]
  exact (BitVec.or_assoc _ _ _).symm

theorem keep_apply (i : Fin 512) : keep (ix1 i) = 1#1 := by
  pointwise [keep]
  exact (Routing.fold_ori _ _).mpr ⟨0, Finset.mem_univ _, (mask_apply i 0).trans (seen_zero i)⟩

theorem queries_apply (x : FVec Ideal S2x512x768 .f32) (wq : FVec Ideal S768x8192 .f32) (b : Fin 2) (i : Fin 512) (h : Fin 128) (e : Fin 64) :
    queries x wq (ix4 b i h e) = qHead x wq b h i e := by
  pointwise [queries, qHead]

theorem scores_apply (q k : FVec Ideal S2x512x128x64 .f32) (b : Fin 2) (h : Fin 128) (i j : Fin 512) :
    scores q k (ix4 b h i j) = score (kvHead q b h) (kvHead k b h) i j := by
  pointwise [scores, score, kvHead, mask_apply]
  rfl

theorem weights_apply (q k : FVec Ideal S2x512x128x64 .f32) (b : Fin 2) (h : Fin 128) (i j : Fin 512) :
    weights (scores q k) (ix4 b h i j) = weight (kvHead q b h) (kvHead k b h) i j := by
  pointwise [weights, weight, top, scores_apply]

theorem quotients_apply (w : FVec Ideal S2x128x512x512 .f32) (b : Fin 2) (h : Fin 128) (i j : Fin 512) :
    quotients w (ix4 b h i j) = Ideal.div (w (ix4 b h i j)) (∑ l : Fin 512, w (ix4 b h i l)) := by
  pointwise [quotients]
  rw [keep_apply]
  rfl

theorem context_apply (v : FVec Ideal S2x512x128x64 .f32) (p : FVec Ideal S2x128x512x512 .f32) (b : Fin 2) (i : Fin 512) (n : Fin 8192) :
    context v p (ix3 b i n) = ∑ j : Fin 512, p (ix4 b (headNo n) i j) * kvHead v b (headNo n) j (headPlace n) := by
  pointwise [context, kvHead, headNo, headPlace]
  exact Finset.sum_congr rfl fun j _ => mul_comm _ _

theorem project_apply (z : FVec Ideal S2x512x8192 .f32) (wo : FVec Ideal S8192x768 .f32) (b : Fin 2) (i : Fin 512) (e : Fin 768) :
    project z wo (ix3 b i e) = ∑ n : Fin 8192, z (ix3 b i n) * wo (ix2 n e) := by
  pointwise [project]

/-! ## The result at an index -/

/-- The stages composed, at an index: the attention's formula. -/
theorem stages_apply (x : FVec Ideal S2x512x768 .f32) (wq : FVec Ideal S768x8192 .f32) (k v : FVec Ideal S2x512x128x64 .f32) (wo : FVec Ideal S8192x768 .f32)
    (b : Fin 2) (i : Fin 512) (e : Fin 768) :
    project (context v (quotients (weights (scores (queries x wq) k)))) wo (ix3 b i e) = resultAt x wq k v wo b i e := by
  have hq : ∀ h, kvHead (queries x wq) b h = qHead x wq b h := fun h => funext fun i => funext fun e => queries_apply x wq b i h e
  rw [project_apply]
  refine Finset.sum_congr rfl fun n _ => congrArg (· * wo (ix2 n e)) ?_
  rw [context_apply, contextAt, attend]
  refine Finset.sum_congr rfl fun j _ => congrArg (· * kvHead v b (headNo n) j (headPlace n)) ?_
  rw [quotients_apply, weights_apply, hq]
  exact congrArg (Ideal.div _) (Finset.sum_congr rfl fun l _ => by rw [weights_apply, hq])

/-- The reference's result at an index. -/
theorem result_apply (m : (ℓ : Loc nD τ sig) → Buf (Elt Ideal) ℓ) (c : Dev nD) (b : Fin 2) (i : Fin 512) (e : Fin 768) :
    Value.res_out0 m c (ix3 b i e) = resultAt (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) b i e :=
  (congrFun (result_eq m c) (ix3 b i e)).trans (stages_apply _ _ _ _ _ b i e)

end Cert.ReferenceIdeal.Stages
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Launch
public import proofs.«01_k».proof.Proof.Value
public import proofs.«01_k».proof.Proof.RefValue
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The frame of the kernel's text, at every float interpretation. -/
theorem frame_text {F : FTy → Type} [FloatOps F] (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0) :=
  (θ_run (Cert.KernelIdeal.defs (F := F)) _ _).mono (fun _ h => ⟨fun c => (h.1 c).2, h.2⟩) (Cert.KernelIdeal.Exchange.run_main m ρ)

/-- The idealized kernel's frame. -/
theorem frame_ideal : Cert.quiescent_KernelIdeal := fun m ρ _ => frame_text m ρ

/-- The two programs' bodies have one text. -/
theorem body_text : @Cert.Kernel.cc0_body Bits _ Cert.Kernel.Gen.facts = @Cert.KernelIdeal.cc0_body Bits _ Cert.KernelIdeal.Gen.facts := rfl

set_option backward.isDefEq.respectTransparency.types false in
/-- So the two body tables are one, -/
theorem bodies_text : Cert.Kernel.defs₀ (F := Bits) = Cert.KernelIdeal.defs₀ (F := Bits) := by
  unfold Cert.Kernel.defs₀ Cert.KernelIdeal.defs₀
  congr 1
  funext l a
  match l, a with
  | 0, (t, s) =>
    show Cert.Kernel.cc0_body _ _ _ _ _ _ _ _ _ _ _ _ _ _ _ _ _ _ _ _ = _
    exact congrArg _ rfl
  | ⟨_ + 1, h⟩, _ => exact absurd h (Nat.not_lt.2 (Nat.le_add_left _ _))

/-- and the tables with the pipelines. -/
theorem defs_text : Cert.Kernel.defs (F := Bits) = Cert.KernelIdeal.defs (F := Bits) :=
  congrArg (Pipeline.defs (Cert.KernelIdeal.pcfgs (F := Bits))) bodies_text

/-- The kernel's frame: its text is the idealized kernel's. -/
theorem frame_kernel : Cert.quiescent_Kernel := fun m ρ _ => by
  rw [defs_text]
  exact frame_text (F := Bits) m ρ

/-- The reference's frame: a host program, which declares no semaphore. -/
theorem frame_reference : Cert.quiescent_ReferenceIdeal := fun m ρ _ =>
  (θ_run (Cert.ReferenceIdeal.defs (F := Ideal)) _ _).mono (fun r h => ⟨fun c => (h c).2, sem_eq_zero_of_no_sems rfl r.2⟩)
    (Cert.ReferenceIdeal.Value.run m ρ)

/-- The two programs' results are one: on every device the kernel's, at every index, is the attention's formula, and so is the reference's. -/
theorem algebraic : Cert.algebraic_KernelIdeal_ReferenceIdeal := fun m g m' g' _ ha => by
  have H : Cert.KernelIdeal.Exchange.Holds m _ _ _ _ _ := ⟨fun c => (ha c).1, fun c => (ha c).2.1, fun c => (ha c).2.2.1, fun c => (ha c).2.2.2.1, fun c => (ha c).2.2.2.2⟩
  refine ⟨Cert.ReferenceIdeal.Value.res_out0 m' 0, ?_, ?_⟩
  · refine (θ_run (Cert.KernelIdeal.defs (F := Ideal)) _ _).mono (fun r h c => ⟨(h.1 c).1.trans (funext fun j => ?_), (h.1 c).2⟩) (Cert.KernelIdeal.Exchange.run_main m g)
    obtain ⟨b, i, e, rfl⟩ : ∃ (b : Fin 2) (i : Fin 512) (e : Fin 768), j = ix3 b i e := ⟨j 0, j 1, j 2, funext fun a => by match a with | 0 => rfl | 1 => rfl | 2 => rfl⟩
    exact (Cert.KernelIdeal.Exchange.result_at H c b i e).trans (Cert.ReferenceIdeal.Stages.result_apply m' 0 b i e).symm
  · exact (θ_run (Cert.ReferenceIdeal.defs (F := Ideal)) _ _).mono (fun r h => h 0) (Cert.ReferenceIdeal.Value.run m' g')

theorem claim : Cert.Claim := ⟨Cert.Kernel.Gen.facts, Cert.KernelIdeal.Gen.facts, Cert.ReferenceIdeal.Gen.facts,
  frame_kernel, frame_ideal, frame_reference, trivial, algebraic⟩

end Cert.Proof

end
